-- ==== Defs.lean ====
def Pre_Quantise (m : (ℓ : Loc Cert.Quantise.nD Cert.Quantise.τ Cert.Quantise.sig) → Buf (Elt Bits) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_in_range [hPre_scales_in_range : Cert.Pre_scales_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scales_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_in_range [hPre_scales_in_range : Cert.Pre_scales_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Quantise [hQuantise : Cert.Quantise.Facts] : Prop :=
  ∀ (m : (ℓ : Loc Cert.Quantise.nD Cert.Quantise.τ Cert.Quantise.sig) → Buf (Elt Bits) ℓ) (g : Dev Cert.Quantise.nD → PrngReg), Pre_Quantise m →
    θ_run (Cert.Quantise.defs (F := Bits)) (onTc (τ := Cert.Quantise.τ) (Cert.Quantise.main (F := Bits))) ⟨m, fun _ => 0, g⟩ (fun r => (∀ c : Dev Cert.Quantise.nD,
      r.2.mem ((c.tc : Thread Cert.Quantise.nD Cert.Quantise.τ).loc Cert.Quantise.main_arg0) = m ((c.tc : Thread Cert.Quantise.nD Cert.Quantise.τ).loc Cert.Quantise.main_arg0))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scales_in_range [hKernelIdeal : Cert.KernelIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scales_in_range [hReferenceIdeal : Cert.ReferenceIdeal.Facts] [hPre_scales_in_range : Cert.Pre_scales_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scales_in_range [hKernelIdeal : Cert.KernelIdeal.Facts] [hReferenceIdeal : Cert.ReferenceIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hQuantise : Cert.Quantise.Facts) (hKernel : Cert.Kernel.Facts) (hKernelIdeal : Cert.KernelIdeal.Facts) (hReferenceIdeal : Cert.ReferenceIdeal.Facts) (hPre_scales_in_range : Cert.Pre_scales_in_range.Facts),
    quiescent_Quantise (hQuantise := hQuantise)
    ∧ quiescent_Kernel (hKernel := hKernel)
    ∧ quiescent_KernelIdeal (hKernelIdeal := hKernelIdeal)
    ∧ quiescent_KernelIdeal_pre_scales_in_range (hKernelIdeal := hKernelIdeal) (hPre_scales_in_range := hPre_scales_in_range)
    ∧ quiescent_ReferenceIdeal (hReferenceIdeal := hReferenceIdeal)
    ∧ quiescent_ReferenceIdeal_pre_scales_in_range (hReferenceIdeal := hReferenceIdeal) (hPre_scales_in_range := hPre_scales_in_range)
    ∧ preserves_Kernel_KernelIdeal
    ∧ algebraic_KernelIdeal_ReferenceIdeal_pre_scales_in_range (hKernelIdeal := hKernelIdeal) (hReferenceIdeal := hReferenceIdeal) (hPre_scales_in_range := hPre_scales_in_range)
-- ==== Pre_scales_in_range.lean ====
abbrev S6144x7168 : Shape := ⟨2, ![6144, 7168]⟩
abbrev S7168x9216 : Shape := ⟨2, ![7168, 9216]⟩
abbrev S224x18432 : Shape := ⟨2, ![224, 18432]⟩
abbrev S_ : Shape := ⟨0, ![]⟩

class Facts : Prop where
  bcast_S_S224x18432 : S_.BroadcastsInDim S224x18432 (![] : Fin 0 → Fin S224x18432.rank)

variable [Facts]

def fn {F : FTy → Type} [FloatOps F] (main_arg0 : FVec F S6144x7168 .bf16) (main_arg1 : IVec S7168x9216 8) (main_arg2 : IVec S224x18432 8) (main_arg3 : IVec S7168x9216 8) (main_arg4 : IVec S224x18432 8) : IVec S224x18432 1 :=
  let main_c : IVec S_ 8 := constantI S_ 8 1#8
  let main_v0 : IVec S224x18432 8 := broadcastInDim S224x18432 ![] bcast_S_S224x18432 main_c
  let main_v1 : IVec S224x18432 1 := cmpi .uge main_arg2 main_v0
  let main_c_0 : IVec S_ 8 := constantI S_ 8 254#8
  let main_v2 : IVec S224x18432 8 := broadcastInDim S224x18432 ![] bcast_S_S224x18432 main_c_0
  let main_v3 : IVec S224x18432 1 := cmpi .ule main_arg2 main_v2
  let main_v4 : IVec S224x18432 1 := andi main_v1 main_v3
  let main_c_1 : IVec S_ 8 := constantI S_ 8 1#8
  let main_v5 : IVec S224x18432 8 := broadcastInDim S224x18432 ![] bcast_S_S224x18432 main_c_1
  let main_v6 : IVec S224x18432 1 := cmpi .uge main_arg4 main_v5
  let main_v7 : IVec S224x18432 1 := andi main_v4 main_v6
  let main_c_2 : IVec S_ 8 := constantI S_ 8 254#8
  let main_v8 : IVec S224x18432 8 := broadcastInDim S224x18432 ![] bcast_S_S224x18432 main_c_2
  let main_v9 : IVec S224x18432 1 := cmpi .ule main_arg4 main_v8
  let main_v10 : IVec S224x18432 1 := andi main_v7 main_v9
  main_v10
-- ==== Quantise.lean ====
abbrev S6144x7168 : Shape := ⟨2, ![6144, 7168]⟩
abbrev S256x256 : Shape := ⟨2, ![256, 256]⟩
abbrev S6144x224 : Shape := ⟨2, ![6144, 224]⟩
abbrev S128x7168 : Shape := ⟨2, ![128, 7168]⟩
abbrev S128x224 : Shape := ⟨2, ![128, 224]⟩
abbrev S128x128 : Shape := ⟨2, ![128, 128]⟩
abbrev S128x256 : Shape := ⟨2, ![128, 256]⟩
abbrev S64x128 : Shape := ⟨2, ![64, 128]⟩
abbrev S64x128x1 : Shape := ⟨3, ![64, 128, 1]⟩
abbrev S128x128x1 : Shape := ⟨3, ![128, 128, 1]⟩
abbrev S128x96 : Shape := ⟨2, ![128, 96]⟩

abbrev nBuf : Space → Nat
  | .hbm => 5
  | .vmem => 9
  | .smem => 0
  | _ => 0

abbrev bufTy : (tb : Table) → Fin (tcTables nBuf tb) → BufTy
  | .hbm, ⟨0, _⟩ => ⟨S6144x7168, .bf16⟩
  | .hbm, ⟨1, _⟩ => ⟨S256x256, .bf16⟩
  | .hbm, ⟨2, _⟩ => ⟨S6144x7168, .i8⟩
  | .hbm, ⟨3, _⟩ => ⟨S6144x224, .i8⟩
  | .hbm, ⟨4, _⟩ => ⟨S6144x7168, .bf16⟩
  | .local _ .vmem, ⟨0, _⟩ => ⟨S256x256, .bf16⟩
  | .local _ .vmem, ⟨1, _⟩ => ⟨S128x7168, .bf16⟩
  | .local _ .vmem, ⟨2, _⟩ => ⟨S128x7168, .bf16⟩
  | .local _ .vmem, ⟨3, _⟩ => ⟨S128x7168, .i8⟩
  | .local _ .vmem, ⟨4, _⟩ => ⟨S128x7168, .i8⟩
  | .local _ .vmem, ⟨5, _⟩ => ⟨S128x224, .i8⟩
  | .local _ .vmem, ⟨6, _⟩ => ⟨S128x224, .i8⟩
  | .local _ .vmem, ⟨7, _⟩ => ⟨S128x7168, .bf16⟩
  | .local _ .vmem, ⟨8, _⟩ => ⟨S128x7168, .bf16⟩
  | _, _ => ⟨S6144x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x7168 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x224 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x7168 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel.lean ====
abbrev S6144x7168 : Shape := ⟨2, ![6144, 7168]⟩
abbrev S7168x9216 : Shape := ⟨2, ![7168, 9216]⟩
abbrev S224x18432 : Shape := ⟨2, ![224, 18432]⟩
abbrev S6144x18432 : Shape := ⟨2, ![6144, 18432]⟩
abbrev S1024x7168 : Shape := ⟨2, ![1024, 7168]⟩
abbrev S7168x128 : Shape := ⟨2, ![7168, 128]⟩
abbrev S224x256 : Shape := ⟨2, ![224, 256]⟩
abbrev S1024x256 : Shape := ⟨2, ![1024, 256]⟩
abbrev S7168x256 : Shape := ⟨2, ![7168, 256]⟩
abbrev S2x224x128 : Shape := ⟨3, ![2, 224, 128]⟩
abbrev S224x128 : Shape := ⟨2, ![224, 128]⟩
abbrev S1x224x128 : Shape := ⟨3, ![1, 224, 128]⟩
abbrev S8x128 : Shape := ⟨2, ![8, 128]⟩
abbrev S32x128 : Shape := ⟨2, ![32, 128]⟩
abbrev S8x128x1 : Shape := ⟨3, ![8, 128, 1]⟩
abbrev S1x1x128 : Shape := ⟨3, ![1, 1, 128]⟩
abbrev S1x128 : Shape := ⟨2, ![1, 128]⟩
abbrev S16x128 : Shape := ⟨2, ![16, 128]⟩

abbrev nBuf : Space → Nat
  | .hbm => 6
  | .vmem => 18
  | .smem => 0
  | _ => 0

abbrev bufTy : (tb : Table) → Fin (tcTables nBuf tb) → BufTy
  | .hbm, ⟨0, _⟩ => ⟨S6144x7168, .bf16⟩
  | .hbm, ⟨1, _⟩ => ⟨S7168x9216, .i8⟩
  | .hbm, ⟨2, _⟩ => ⟨S224x18432, .i8⟩
  | .hbm, ⟨3, _⟩ => ⟨S7168x9216, .i8⟩
  | .hbm, ⟨4, _⟩ => ⟨S224x18432, .i8⟩
  | .hbm, ⟨5, _⟩ => ⟨S6144x18432, .bf16⟩
  | .local _ .vmem, ⟨0, _⟩ => ⟨S1024x7168, .bf16⟩
  | .local _ .vmem, ⟨1, _⟩ => ⟨S1024x7168, .bf16⟩
  | .local _ .vmem, ⟨2, _⟩ => ⟨S7168x128, .i8⟩
  | .local _ .vmem, ⟨3, _⟩ => ⟨S7168x128, .i8⟩
  | .local _ .vmem, ⟨4, _⟩ => ⟨S224x256, .i8⟩
  | .local _ .vmem, ⟨5, _⟩ => ⟨S224x256, .i8⟩
  | .local _ .vmem, ⟨6, _⟩ => ⟨S7168x128, .i8⟩
  | .local _ .vmem, ⟨7, _⟩ => ⟨S7168x128, .i8⟩
  | .local _ .vmem, ⟨8, _⟩ => ⟨S224x256, .i8⟩
  | .local _ .vmem, ⟨9, _⟩ => ⟨S224x256, .i8⟩
  | .local _ .vmem, ⟨10, _⟩ => ⟨S1024x256, .bf16⟩
  | .local _ .vmem, ⟨11, _⟩ => ⟨S1024x256, .bf16⟩
  | .local _ .vmem, ⟨12, _⟩ => ⟨S7168x256, .bf16⟩
  | .local _ .vmem, ⟨13, _⟩ => ⟨S7168x256, .bf16⟩
  | .local _ .vmem, ⟨14, _⟩ => ⟨S7168x256, .bf16⟩
  | .local _ .vmem, ⟨15, _⟩ => ⟨S7168x256, .bf16⟩
  | .local _ .vmem, ⟨16, _⟩ => ⟨S2x224x128, .i32⟩
  | .local _ .vmem, ⟨17, _⟩ => ⟨S2x224x128, .i32⟩
  | _, _ => ⟨S6144x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![433], ![false]⟩

def k0_cond1 (i : grid0.Coords) : BitVec 1 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v11 : BitVec 32 := Scalar.extui v10
  let c0_i32_4 : BitVec 32 := 0#32
  let v12 : BitVec 1 := Scalar.cmpi .ne v11 c0_i32_4
  v12

def k0_cond2 (i : grid0.Coords) : BitVec 1 :=
  let arg0 : BitVec 32 := BitVec.ofNat 32 (i 0).val
  let c432_i32 : BitVec 32 := 432#32
  let v26 : BitVec 1 := Scalar.cmpi .slt arg0 c432_i32
  let v27 : BitVec 32 := Scalar.extui v26
  let c0_i32_13 : BitVec 32 := 0#32
  let v28 : BitVec 1 := Scalar.cmpi .ne v27 c0_i32_13
  v28

@[reducible] def k0_t1_loop : Scf.Loop 32 :=
  let c0_i32_37 : BitVec 32 := 0#32
  let c224_i32 : BitVec 32 := 224#32
  let v76 : BitVec 32 := Scalar.addi c0_i32_37 c224_i32
  let c1_i32_38 : BitVec 32 := 1#32
  ⟨c0_i32_37, v76, c1_i32_38⟩
def k0_mult1 (k0_t1 : Fin k0_t1_loop.trips) : BitVec 32 :=
  let c0_i32_37 : BitVec 32 := 0#32
  let c1_i32_38 : BitVec 32 := 1#32
  let arg13 : BitVec 32 := Scf.iv c0_i32_37 c1_i32_38 k0_t1
  let c32_i32 : BitVec 32 := 32#32
  let v92 : BitVec 32 := Scalar.muli arg13 c32_i32
  v92
def k0_off1 (k0_t1 : Fin k0_t1_loop.trips) : Fin 2 → Nat :=
  let c0_i32_37 : BitVec 32 := 0#32
  let c1_i32_38 : BitVec 32 := 1#32
  let arg13 : BitVec 32 := Scf.iv c0_i32_37 c1_i32_38 k0_t1
  let c32_i32 : BitVec 32 := 32#32
  let v92 : BitVec 32 := Scalar.muli arg13 c32_i32
  let v93 : BitVec 32 := v92
  let v94 : Index := Scalar.indexCast v93
  let c0_51 : Index := 0#32
  ![v94.toNat, 0]
def k0_off2 (k0_t1 : Fin k0_t1_loop.trips) : Fin 3 → Nat :=
  let c0_54 : Index := 0#32
  let c0_i32_37 : BitVec 32 := 0#32
  let c1_i32_38 : BitVec 32 := 1#32
  let arg13 : BitVec 32 := Scf.iv c0_i32_37 c1_i32_38 k0_t1
  let v117 : Index := Scalar.indexCast arg13
  let c0_55 : Index := 0#32
  ![0, v117.toNat, 0]
def k0_off3 (k0_t1 : Fin k0_t1_loop.trips) : Fin 2 → Nat :=
  let c0_i32_37 : BitVec 32 := 0#32
  let c1_i32_38 : BitVec 32 := 1#32
  let arg13 : BitVec 32 := Scf.iv c0_i32_37 c1_i32_38 k0_t1
  let c32_i32 : BitVec 32 := 32#32
  let v92 : BitVec 32 := Scalar.muli arg13 c32_i32
  let v93 : BitVec 32 := v92
  let v125 : Index := Scalar.indexCast v93
  let c0_56 : Index := 0#32
  ![v125.toNat, 0]
def k0_off4 (k0_t1 : Fin k0_t1_loop.trips) : Fin 3 → Nat :=
  let c1_64 : Index := 1#32
  let c0_i32_37 : BitVec 32 := 0#32
  let c1_i32_38 : BitVec 32 := 1#32
  let arg13 : BitVec 32 := Scf.iv c0_i32_37 c1_i32_38 k0_t1
  let v152 : Index := Scalar.indexCast arg13
  let c0_65 : Index := 0#32
  ![1, v152.toNat, 0]
def k0_off5 (k0_t1 : Fin k0_t1_loop.trips) : Fin 2 → Nat :=
  let c0_i32_37 : BitVec 32 := 0#32
  let c1_i32_38 : BitVec 32 := 1#32
  let arg13 : BitVec 32 := Scf.iv c0_i32_37 c1_i32_38 k0_t1
  let c32_i32 : BitVec 32 := 32#32
  let v92 : BitVec 32 := Scalar.muli arg13 c32_i32
  let v93 : BitVec 32 := v92
  let v160 : Index := Scalar.indexCast v93
  let c128 : Index := 128#32
  ![v160.toNat, 128]
@[reducible] def k0_t2_loop : Scf.Loop 32 :=
  let c0_i32_47 : BitVec 32 := 0#32
  let c224_i32_48 : BitVec 32 := 224#32
  let v91 : BitVec 32 := Scalar.addi c0_i32_47 c224_i32_48
  let c1_i32_49 : BitVec 32 := 1#32
  ⟨c0_i32_47, v91, c1_i32_49⟩
def k0_mult2 (k0_t2 : Fin k0_t2_loop.trips) : BitVec 32 :=
  let c0_i32_47 : BitVec 32 := 0#32
  let c1_i32_49 : BitVec 32 := 1#32
  let arg13 : BitVec 32 := Scf.iv c0_i32_47 c1_i32_49 k0_t2
  let c32_i32 : BitVec 32 := 32#32
  let v92 : BitVec 32 := Scalar.muli arg13 c32_i32
  v92
def k0_off6 (k0_t2 : Fin k0_t2_loop.trips) : Fin 2 → Nat :=
  let c0_i32_47 : BitVec 32 := 0#32
  let c1_i32_49 : BitVec 32 := 1#32
  let arg13 : BitVec 32 := Scf.iv c0_i32_47 c1_i32_49 k0_t2
  let c32_i32 : BitVec 32 := 32#32
  let v92 : BitVec 32 := Scalar.muli arg13 c32_i32
  let v93 : BitVec 32 := v92
  let v94 : Index := Scalar.indexCast v93
  let c0_51 : Index := 0#32
  ![v94.toNat, 0]
def k0_off7 (k0_t2 : Fin k0_t2_loop.trips) : Fin 3 → Nat :=
  let c0_54 : Index := 0#32
  let c0_i32_47 : BitVec 32 := 0#32
  let c1_i32_49 : BitVec 32 := 1#32
  let arg13 : BitVec 32 := Scf.iv c0_i32_47 c1_i32_49 k0_t2
  let v117 : Index := Scalar.indexCast arg13
  let c0_55 : Index := 0#32
  ![0, v117.toNat, 0]
def k0_off8 (k0_t2 : Fin k0_t2_loop.trips) : Fin 2 → Nat :=
  let c0_i32_47 : BitVec 32 := 0#32
  let c1_i32_49 : BitVec 32 := 1#32
  let arg13 : BitVec 32 := Scf.iv c0_i32_47 c1_i32_49 k0_t2
  let c32_i32 : BitVec 32 := 32#32
  let v92 : BitVec 32 := Scalar.muli arg13 c32_i32
  let v93 : BitVec 32 := v92
  let v125 : Index := Scalar.indexCast v93
  let c0_56 : Index := 0#32
  ![v125.toNat, 0]
def k0_off9 (k0_t2 : Fin k0_t2_loop.trips) : Fin 3 → Nat :=
  let c1_64 : Index := 1#32
  let c0_i32_47 : BitVec 32 := 0#32
  let c1_i32_49 : BitVec 32 := 1#32
  let arg13 : BitVec 32 := Scf.iv c0_i32_47 c1_i32_49 k0_t2
  let v152 : Index := Scalar.indexCast arg13
  let c0_65 : Index := 0#32
  ![1, v152.toNat, 0]
def k0_off10 (k0_t2 : Fin k0_t2_loop.trips) : Fin 2 → Nat :=
  let c0_i32_47 : BitVec 32 := 0#32
  let c1_i32_49 : BitVec 32 := 1#32
  let arg13 : BitVec 32 := Scf.iv c0_i32_47 c1_i32_49 k0_t2
  let c32_i32 : BitVec 32 := 32#32
  let v92 : BitVec 32 := Scalar.muli arg13 c32_i32
  let v93 : BitVec 32 := v92
  let v160 : Index := Scalar.indexCast v93
  let c128 : Index := 128#32
  ![v160.toNat, 128]
def k0_cond4 (i : grid0.Coords) : BitVec 1 :=
  let arg0 : BitVec 32 := BitVec.ofNat 32 (i 0).val
  let c2_i32_5 : BitVec 32 := 2#32
  let c0_i32_6 : BitVec 32 := 0#32
  let v13 : BitVec 1 := Scalar.cmpi .eq c2_i32_5 c0_i32_6
  let c1_i32_7 : BitVec 32 := 1#32
  let v14 : BitVec 32 := Scalar.select v13 c1_i32_7 c2_i32_5
  let v15 : BitVec 32 := Scalar.remsi arg0 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c1_i32_11 : BitVec 32 := 1#32
  let v23 : BitVec 1 := Scalar.cmpi .eq v22 c1_i32_11
  let v24 : BitVec 32 := Scalar.extui v23
  let c0_i32_12 : BitVec 32 := 0#32
  let v25 : BitVec 1 := Scalar.cmpi .ne v24 c0_i32_12
  v25

def k0_cond5 (i : grid0.Coords) : BitVec 1 :=
  let arg0 : BitVec 32 := BitVec.ofNat 32 (i 0).val
  let c432_i32 : BitVec 32 := 432#32
  let v26 : BitVec 1 := Scalar.cmpi .slt arg0 c432_i32
  let v27 : BitVec 32 := Scalar.extui v26
  let c0_i32_13 : BitVec 32 := 0#32
  let v28 : BitVec 1 := Scalar.cmpi .ne v27 c0_i32_13
  v28

@[reducible] def k0_t3_loop : Scf.Loop 32 :=
  let c0_i32_37 : BitVec 32 := 0#32
  let c224_i32 : BitVec 32 := 224#32
  let v76 : BitVec 32 := Scalar.addi c0_i32_37 c224_i32
  let c1_i32_38 : BitVec 32 := 1#32
  ⟨c0_i32_37, v76, c1_i32_38⟩
def k0_mult3 (k0_t3 : Fin k0_t3_loop.trips) : BitVec 32 :=
  let c0_i32_37 : BitVec 32 := 0#32
  let c1_i32_38 : BitVec 32 := 1#32
  let arg13 : BitVec 32 := Scf.iv c0_i32_37 c1_i32_38 k0_t3
  let c32_i32 : BitVec 32 := 32#32
  let v92 : BitVec 32 := Scalar.muli arg13 c32_i32
  v92
def k0_off11 (k0_t3 : Fin k0_t3_loop.trips) : Fin 2 → Nat :=
  let c0_i32_37 : BitVec 32 := 0#32
  let c1_i32_38 : BitVec 32 := 1#32
  let arg13 : BitVec 32 := Scf.iv c0_i32_37 c1_i32_38 k0_t3
  let c32_i32 : BitVec 32 := 32#32
  let v92 : BitVec 32 := Scalar.muli arg13 c32_i32
  let v93 : BitVec 32 := v92
  let v94 : Index := Scalar.indexCast v93
  let c0_51 : Index := 0#32
  ![v94.toNat, 0]
def k0_off12 (k0_t3 : Fin k0_t3_loop.trips) : Fin 3 → Nat :=
  let c0_54 : Index := 0#32
  let c0_i32_37 : BitVec 32 := 0#32
  let c1_i32_38 : BitVec 32 := 1#32
  let arg13 : BitVec 32 := Scf.iv c0_i32_37 c1_i32_38 k0_t3
  let v117 : Index := Scalar.indexCast arg13
  let c0_55 : Index := 0#32
  ![0, v117.toNat, 0]
def k0_off13 (k0_t3 : Fin k0_t3_loop.trips) : Fin 2 → Nat :=
  let c0_i32_37 : BitVec 32 := 0#32
  let c1_i32_38 : BitVec 32 := 1#32
  let arg13 : BitVec 32 := Scf.iv c0_i32_37 c1_i32_38 k0_t3
  let c32_i32 : BitVec 32 := 32#32
  let v92 : BitVec 32 := Scalar.muli arg13 c32_i32
  let v93 : BitVec 32 := v92
  let v125 : Index := Scalar.indexCast v93
  let c0_56 : Index := 0#32
  ![v125.toNat, 0]
def k0_off14 (k0_t3 : Fin k0_t3_loop.trips) : Fin 3 → Nat :=
  let c1_64 : Index := 1#32
  let c0_i32_37 : BitVec 32 := 0#32
  let c1_i32_38 : BitVec 32 := 1#32
  let arg13 : BitVec 32 := Scf.iv c0_i32_37 c1_i32_38 k0_t3
  let v152 : Index := Scalar.indexCast arg13
  let c0_65 : Index := 0#32
  ![1, v152.toNat, 0]
def k0_off15 (k0_t3 : Fin k0_t3_loop.trips) : Fin 2 → Nat :=
  let c0_i32_37 : BitVec 32 := 0#32
  let c1_i32_38 : BitVec 32 := 1#32
  let arg13 : BitVec 32 := Scf.iv c0_i32_37 c1_i32_38 k0_t3
  let c32_i32 : BitVec 32 := 32#32
  let v92 : BitVec 32 := Scalar.muli arg13 c32_i32
  let v93 : BitVec 32 := v92
  let v160 : Index := Scalar.indexCast v93
  let c128 : Index := 128#32
  ![v160.toNat, 128]
@[reducible] def k0_t4_loop : Scf.Loop 32 :=
  let c0_i32_47 : BitVec 32 := 0#32
  let c224_i32_48 : BitVec 32 := 224#32
  let v91 : BitVec 32 := Scalar.addi c0_i32_47 c224_i32_48
  let c1_i32_49 : BitVec 32 := 1#32
  ⟨c0_i32_47, v91, c1_i32_49⟩
def k0_mult4 (k0_t4 : Fin k0_t4_loop.trips) : BitVec 32 :=
  let c0_i32_47 : BitVec 32 := 0#32
  let c1_i32_49 : BitVec 32 := 1#32
  let arg13 : BitVec 32 := Scf.iv c0_i32_47 c1_i32_49 k0_t4
  let c32_i32 : BitVec 32 := 32#32
  let v92 : BitVec 32 := Scalar.muli arg13 c32_i32
  v92
def k0_off16 (k0_t4 : Fin k0_t4_loop.trips) : Fin 2 → Nat :=
  let c0_i32_47 : BitVec 32 := 0#32
  let c1_i32_49 : BitVec 32 := 1#32
  let arg13 : BitVec 32 := Scf.iv c0_i32_47 c1_i32_49 k0_t4
  let c32_i32 : BitVec 32 := 32#32
  let v92 : BitVec 32 := Scalar.muli arg13 c32_i32
  let v93 : BitVec 32 := v92
  let v94 : Index := Scalar.indexCast v93
  let c0_51 : Index := 0#32
  ![v94.toNat, 0]
def k0_off17 (k0_t4 : Fin k0_t4_loop.trips) : Fin 3 → Nat :=
  let c0_54 : Index := 0#32
  let c0_i32_47 : BitVec 32 := 0#32
  let c1_i32_49 : BitVec 32 := 1#32
  let arg13 : BitVec 32 := Scf.iv c0_i32_47 c1_i32_49 k0_t4
  let v117 : Index := Scalar.indexCast arg13
  let c0_55 : Index := 0#32
  ![0, v117.toNat, 0]
def k0_off18 (k0_t4 : Fin k0_t4_loop.trips) : Fin 2 → Nat :=
  let c0_i32_47 : BitVec 32 := 0#32
  let c1_i32_49 : BitVec 32 := 1#32
  let arg13 : BitVec 32 := Scf.iv c0_i32_47 c1_i32_49 k0_t4
  let c32_i32 : BitVec 32 := 32#32
  let v92 : BitVec 32 := Scalar.muli arg13 c32_i32
  let v93 : BitVec 32 := v92
  let v125 : Index := Scalar.indexCast v93
  let c0_56 : Index := 0#32
  ![v125.toNat, 0]
def k0_off19 (k0_t4 : Fin k0_t4_loop.trips) : Fin 3 → Nat :=
  let c1_64 : Index := 1#32
  let c0_i32_47 : BitVec 32 := 0#32
  let c1_i32_49 : BitVec 32 := 1#32
  let arg13 : BitVec 32 := Scf.iv c0_i32_47 c1_i32_49 k0_t4
  let v152 : Index := Scalar.indexCast arg13
  let c0_65 : Index := 0#32
  ![1, v152.toNat, 0]
def k0_off20 (k0_t4 : Fin k0_t4_loop.trips) : Fin 2 → Nat :=
  let c0_i32_47 : BitVec 32 := 0#32
  let c1_i32_49 : BitVec 32 := 1#32
  let arg13 : BitVec 32 := Scf.iv c0_i32_47 c1_i32_49 k0_t4
  let c32_i32 : BitVec 32 := 32#32
  let v92 : BitVec 32 := Scalar.muli arg13 c32_i32
  let v93 : BitVec 32 := v92
  let v160 : Index := Scalar.indexCast v93
  let c128 : Index := 128#32
  ![v160.toNat, 128]
def k0_cond3 (i : grid0.Coords) : BitVec 1 :=
  let arg0 : BitVec 32 := BitVec.ofNat 32 (i 0).val
  let c0_i32_14 : BitVec 32 := 0#32
  let v29 : BitVec 1 := Scalar.cmpi .sgt arg0 c0_i32_14
  let v30 : BitVec 32 := Scalar.extui v29
  let c0_i32_15 : BitVec 32 := 0#32
  let v31 : BitVec 1 := Scalar.cmpi .ne v30 c0_i32_15
  v31

def k0_cond6 (i : grid0.Coords) : BitVec 1 :=
  let arg0 : BitVec 32 := BitVec.ofNat 32 (i 0).val
  let c0_i32_14 : BitVec 32 := 0#32
  let v29 : BitVec 1 := Scalar.cmpi .sgt arg0 c0_i32_14
  let v30 : BitVec 32 := Scalar.extui v29
  let c0_i32_15 : BitVec 32 := 0#32
  let v31 : BitVec 1 := Scalar.cmpi .ne v30 c0_i32_15
  v31

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c72_i32 : BitVec 32 := 72#32
  let v2 : BitVec 32 := Scalar.divsi v1 c72_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c72_i32 c0_i32_2
  let v9 : BitVec 32 := Scalar.extui v8
  let c0_i32_3 : BitVec 32 := 0#32
  let v10 : BitVec 1 := Scalar.cmpi .slt c72_i32 c0_i32_3
  let v11 : BitVec 32 := Scalar.extui v10
  let v12 : BitVec 32 := Scalar.subi v9 v11
  let v13 : BitVec 1 := Scalar.cmpi .ne v7 v12
  let v14 : BitVec 32 := Scalar.remsi v1 c72_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

def cc0_transform_1 (i : grid0.Coords) : Fin 2 → Nat :=
  let arg0 : BitVec 32 := BitVec.ofNat 32 (i 0).val
  let c431_i32 : BitVec 32 := 431#32
  let v0 : BitVec 32 := Scalar.minsi arg0 c431_i32
  let c72_i32 : BitVec 32 := 72#32
  let c0_i32 : BitVec 32 := 0#32
  let v1 : BitVec 1 := Scalar.cmpi .eq c72_i32 c0_i32
  let c1_i32 : BitVec 32 := 1#32
  let v2 : BitVec 32 := Scalar.select v1 c1_i32 c72_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![c0_i32_3.toNat, v10.toNat]

def cc0_transform_2 (i : grid0.Coords) : Fin 2 → Nat :=
  let arg0 : BitVec 32 := BitVec.ofNat 32 (i 0).val
  let c431_i32 : BitVec 32 := 431#32
  let v0 : BitVec 32 := Scalar.minsi arg0 c431_i32
  let c72_i32 : BitVec 32 := 72#32
  let c0_i32 : BitVec 32 := 0#32
  let v1 : BitVec 1 := Scalar.cmpi .eq c72_i32 c0_i32
  let c1_i32 : BitVec 32 := 1#32
  let v2 : BitVec 32 := Scalar.select v1 c1_i32 c72_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![c0_i32_3.toNat, v10.toNat]

def cc0_transform_3 (i : grid0.Coords) : Fin 2 → Nat :=
  let arg0 : BitVec 32 := BitVec.ofNat 32 (i 0).val
  let c431_i32 : BitVec 32 := 431#32
  let v0 : BitVec 32 := Scalar.minsi arg0 c431_i32
  let c72_i32 : BitVec 32 := 72#32
  let c0_i32 : BitVec 32 := 0#32
  let v1 : BitVec 1 := Scalar.cmpi .eq c72_i32 c0_i32
  let c1_i32 : BitVec 32 := 1#32
  let v2 : BitVec 32 := Scalar.select v1 c1_i32 c72_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![c0_i32_3.toNat, v10.toNat]

def cc0_transform_4 (i : grid0.Coords) : Fin 2 → Nat :=
  let arg0 : BitVec 32 := BitVec.ofNat 32 (i 0).val
  let c431_i32 : BitVec 32 := 431#32
  let v0 : BitVec 32 := Scalar.minsi arg0 c431_i32
  let c72_i32 : BitVec 32 := 72#32
  let c0_i32 : BitVec 32 := 0#32
  let v1 : BitVec 1 := Scalar.cmpi .eq c72_i32 c0_i32
  let c1_i32 : BitVec 32 := 1#32
  let v2 : BitVec 32 := Scalar.select v1 c1_i32 c72_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![c0_i32_3.toNat, v10.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c72_i32 : BitVec 32 := 72#32
  let v2 : BitVec 32 := Scalar.divsi v1 c72_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c72_i32 c0_i32_2
  let v9 : BitVec 32 := Scalar.extui v8
  let c0_i32_3 : BitVec 32 := 0#32
  let v10 : BitVec 1 := Scalar.cmpi .slt c72_i32 c0_i32_3
  let v11 : BitVec 32 := Scalar.extui v10
  let v12 : BitVec 32 := Scalar.subi v9 v11
  let v13 : BitVec 1 := Scalar.cmpi .ne v7 v12
  let v14 : BitVec 32 := Scalar.remsi v1 c72_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c72_i32_8 : BitVec 32 := 72#32
  let c0_i32_9 : BitVec 32 := 0#32
  let v21 : BitVec 1 := Scalar.cmpi .eq c72_i32_8 c0_i32_9
  let c1_i32_10 : BitVec 32 := 1#32
  let v22 : BitVec 32 := Scalar.select v21 c1_i32_10 c72_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v18.toNat, v30.toNat]

abbrev stage0_0 : Fin 2 → Memref sig .tc .vmem S1024x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7168x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S224x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S7168x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S224x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S6144x7168 : Shape := ⟨2, ![6144, 7168]⟩
abbrev S7168x9216 : Shape := ⟨2, ![7168, 9216]⟩
abbrev S224x18432 : Shape := ⟨2, ![224, 18432]⟩
abbrev S_ : Shape := ⟨0, ![]⟩
abbrev S224x9216 : Shape := ⟨2, ![224, 9216]⟩
abbrev S224x32x9216 : Shape := ⟨3, ![224, 32, 9216]⟩
abbrev S224x1x9216 : Shape := ⟨3, ![224, 1, 9216]⟩
abbrev S6144x9216 : Shape := ⟨2, ![6144, 9216]⟩
abbrev S6144x9216x1 : Shape := ⟨3, ![6144, 9216, 1]⟩
abbrev S6144x9216x2 : Shape := ⟨3, ![6144, 9216, 2]⟩
abbrev S6144x18432 : Shape := ⟨2, ![6144, 18432]⟩

abbrev nBuf : Space → Nat
  | .hbm => 338
  | .vmem => 0
  | .smem => 0
  | _ => 0

abbrev hbmTy0_0 (i : Nat) : BufTy := match i % 128 with
  | 0 => ⟨S6144x7168, .bf16⟩
  | 1 => ⟨S7168x9216, .i8⟩
  | 2 => ⟨S224x18432, .i8⟩
  | 3 => ⟨S7168x9216, .i8⟩
  | 4 => ⟨S224x18432, .i8⟩
  | 5 => ⟨S7168x9216, .i32⟩
  | 6 => ⟨S_, .i32⟩
  | 7 => ⟨S7168x9216, .i32⟩
  | 8 => ⟨S7168x9216, .i32⟩
  | 9 => ⟨S224x9216, .i8⟩
  | 10 => ⟨S_, .i32⟩
  | 11 => ⟨S7168x9216, .i32⟩
  | 12 => ⟨S7168x9216, .i32⟩
  | 13 => ⟨S_, .i32⟩
  | 14 => ⟨S7168x9216, .i32⟩
  | 15 => ⟨S7168x9216, .i1⟩
  | 16 => ⟨S_, .i32⟩
  | 17 => ⟨S7168x9216, .i32⟩
  | 18 => ⟨S7168x9216, .i32⟩
  | 19 => ⟨S_, .i32⟩
  | 20 => ⟨S7168x9216, .i32⟩
  | 21 => ⟨S7168x9216, .i32⟩
  | 22 => ⟨S_, .i32⟩
  | 23 => ⟨S7168x9216, .i32⟩
  | 24 => ⟨S7168x9216, .i1⟩
  | 25 => ⟨S_, .i32⟩
  | 26 => ⟨S7168x9216, .i32⟩
  | 27 => ⟨S7168x9216, .i32⟩
  | 28 => ⟨S_, .i32⟩
  | 29 => ⟨S7168x9216, .i32⟩
  | 30 => ⟨S7168x9216, .i32⟩
  | 31 => ⟨S_, .i32⟩
  | 32 => ⟨S7168x9216, .i32⟩
  | 33 => ⟨S7168x9216, .i1⟩
  | 34 => ⟨S_, .i32⟩
  | 35 => ⟨S7168x9216, .i32⟩
  | 36 => ⟨S7168x9216, .i32⟩
  | 37 => ⟨S_, .i32⟩
  | 38 => ⟨S7168x9216, .i32⟩
  | 39 => ⟨S7168x9216, .i32⟩
  | 40 => ⟨S_, .i32⟩
  | 41 => ⟨S7168x9216, .i32⟩
  | 42 => ⟨S7168x9216, .i1⟩
  | 43 => ⟨S_, .f32⟩
  | 44 => ⟨S_, .f32⟩
  | 45 => ⟨S7168x9216, .f32⟩
  | 46 => ⟨S7168x9216, .f32⟩
  | 47 => ⟨S7168x9216, .f32⟩
  | 48 => ⟨S_, .f32⟩
  | 49 => ⟨S_, .f32⟩
  | 50 => ⟨S7168x9216, .f32⟩
  | 51 => ⟨S7168x9216, .f32⟩
  | 52 => ⟨S7168x9216, .f32⟩
  | 53 => ⟨S7168x9216, .f32⟩
  | 54 => ⟨S_, .f32⟩
  | 55 => ⟨S_, .f32⟩
  | 56 => ⟨S7168x9216, .f32⟩
  | 57 => ⟨S7168x9216, .f32⟩
  | 58 => ⟨S7168x9216, .f32⟩
  | 59 => ⟨S_, .f32⟩
  | 60 => ⟨S_, .f32⟩
  | 61 => ⟨S7168x9216, .f32⟩
  | 62 => ⟨S7168x9216, .f32⟩
  | 63 => ⟨S7168x9216, .f32⟩
  | 64 => ⟨S7168x9216, .f32⟩
  | 65 => ⟨S7168x9216, .f32⟩
  | 66 => ⟨S7168x9216, .f32⟩
  | 67 => ⟨S7168x9216, .f32⟩
  | 68 => ⟨S7168x9216, .f32⟩
  | 69 => ⟨S224x32x9216, .f32⟩
  | 70 => ⟨S224x9216, .i32⟩
  | 71 => ⟨S_, .i32⟩
  | 72 => ⟨S224x9216, .i32⟩
  | 73 => ⟨S224x9216, .i32⟩
  | 74 => ⟨S224x9216, .f32⟩
  | 75 => ⟨S_, .f32⟩
  | 76 => ⟨S224x9216, .f32⟩
  | 77 => ⟨S224x9216, .f32⟩
  | 78 => ⟨S224x1x9216, .f32⟩
  | 79 => ⟨S224x32x9216, .f32⟩
  | 80 => ⟨S224x32x9216, .f32⟩
  | 81 => ⟨S7168x9216, .f32⟩
  | 82 => ⟨S7168x9216, .bf16⟩
  | 83 => ⟨S_, .i32⟩
  | 84 => ⟨S7168x9216, .i32⟩
  | 85 => ⟨S7168x9216, .i32⟩
  | 86 => ⟨S224x9216, .i8⟩
  | 87 => ⟨S_, .i32⟩
  | 88 => ⟨S7168x9216, .i32⟩
  | 89 => ⟨S7168x9216, .i32⟩
  | 90 => ⟨S_, .i32⟩
  | 91 => ⟨S7168x9216, .i32⟩
  | 92 => ⟨S7168x9216, .i1⟩
  | 93 => ⟨S_, .i32⟩
  | 94 => ⟨S7168x9216, .i32⟩
  | 95 => ⟨S7168x9216, .i32⟩
  | 96 => ⟨S_, .i32⟩
  | 97 => ⟨S7168x9216, .i32⟩
  | 98 => ⟨S7168x9216, .i32⟩
  | 99 => ⟨S_, .i32⟩
  | 100 => ⟨S7168x9216, .i32⟩
  | 101 => ⟨S7168x9216, .i1⟩
  | 102 => ⟨S_, .i32⟩
  | 103 => ⟨S7168x9216, .i32⟩
  | 104 => ⟨S7168x9216, .i32⟩
  | 105 => ⟨S_, .i32⟩
  | 106 => ⟨S7168x9216, .i32⟩
  | 107 => ⟨S7168x9216, .i32⟩
  | 108 => ⟨S_, .i32⟩
  | 109 => ⟨S7168x9216, .i32⟩
  | 110 => ⟨S7168x9216, .i1⟩
  | 111 => ⟨S_, .i32⟩
  | 112 => ⟨S7168x9216, .i32⟩
  | 113 => ⟨S7168x9216, .i32⟩
  | 114 => ⟨S_, .i32⟩
  | 115 => ⟨S7168x9216, .i32⟩
  | 116 => ⟨S7168x9216, .i32⟩
  | 117 => ⟨S_, .i32⟩
  | 118 => ⟨S7168x9216, .i32⟩
  | 119 => ⟨S7168x9216, .i1⟩
  | 120 => ⟨S_, .f32⟩
  | 121 => ⟨S_, .f32⟩
  | 122 => ⟨S7168x9216, .f32⟩
  | 123 => ⟨S7168x9216, .f32⟩
  | 124 => ⟨S7168x9216, .f32⟩
  | 125 => ⟨S_, .f32⟩
  | 126 => ⟨S_, .f32⟩
  | 127 => ⟨S7168x9216, .f32⟩
  | _ => ⟨S6144x7168, .bf16⟩

abbrev hbmTy0_1 (i : Nat) : BufTy := match i % 128 with
  | 0 => ⟨S7168x9216, .f32⟩
  | 1 => ⟨S7168x9216, .f32⟩
  | 2 => ⟨S7168x9216, .f32⟩
  | 3 => ⟨S_, .f32⟩
  | 4 => ⟨S_, .f32⟩
  | 5 => ⟨S7168x9216, .f32⟩
  | 6 => ⟨S7168x9216, .f32⟩
  | 7 => ⟨S7168x9216, .f32⟩
  | 8 => ⟨S_, .f32⟩
  | 9 => ⟨S_, .f32⟩
  | 10 => ⟨S7168x9216, .f32⟩
  | 11 => ⟨S7168x9216, .f32⟩
  | 12 => ⟨S7168x9216, .f32⟩
  | 13 => ⟨S7168x9216, .f32⟩
  | 14 => ⟨S7168x9216, .f32⟩
  | 15 => ⟨S7168x9216, .f32⟩
  | 16 => ⟨S7168x9216, .f32⟩
  | 17 => ⟨S7168x9216, .f32⟩
  | 18 => ⟨S224x32x9216, .f32⟩
  | 19 => ⟨S224x9216, .i32⟩
  | 20 => ⟨S_, .i32⟩
  | 21 => ⟨S224x9216, .i32⟩
  | 22 => ⟨S224x9216, .i32⟩
  | 23 => ⟨S224x9216, .f32⟩
  | 24 => ⟨S_, .f32⟩
  | 25 => ⟨S224x9216, .f32⟩
  | 26 => ⟨S224x9216, .f32⟩
  | 27 => ⟨S224x1x9216, .f32⟩
  | 28 => ⟨S224x32x9216, .f32⟩
  | 29 => ⟨S224x32x9216, .f32⟩
  | 30 => ⟨S7168x9216, .f32⟩
  | 31 => ⟨S7168x9216, .bf16⟩
  | 32 => ⟨S6144x9216, .f32⟩
  | 33 => ⟨S6144x9216, .f32⟩
  | 34 => ⟨S6144x9216x1, .f32⟩
  | 35 => ⟨S6144x9216x1, .f32⟩
  | 36 => ⟨S6144x9216x2, .f32⟩
  | 37 => ⟨S6144x18432, .f32⟩
  | 38 => ⟨S7168x9216, .i32⟩
  | 39 => ⟨S_, .i32⟩
  | 40 => ⟨S7168x9216, .i32⟩
  | 41 => ⟨S7168x9216, .i32⟩
  | 42 => ⟨S224x9216, .i8⟩
  | 43 => ⟨S_, .i32⟩
  | 44 => ⟨S7168x9216, .i32⟩
  | 45 => ⟨S7168x9216, .i32⟩
  | 46 => ⟨S_, .i32⟩
  | 47 => ⟨S7168x9216, .i32⟩
  | 48 => ⟨S7168x9216, .i1⟩
  | 49 => ⟨S_, .i32⟩
  | 50 => ⟨S7168x9216, .i32⟩
  | 51 => ⟨S7168x9216, .i32⟩
  | 52 => ⟨S_, .i32⟩
  | 53 => ⟨S7168x9216, .i32⟩
  | 54 => ⟨S7168x9216, .i32⟩
  | 55 => ⟨S_, .i32⟩
  | 56 => ⟨S7168x9216, .i32⟩
  | 57 => ⟨S7168x9216, .i1⟩
  | 58 => ⟨S_, .i32⟩
  | 59 => ⟨S7168x9216, .i32⟩
  | 60 => ⟨S7168x9216, .i32⟩
  | 61 => ⟨S_, .i32⟩
  | 62 => ⟨S7168x9216, .i32⟩
  | 63 => ⟨S7168x9216, .i32⟩
  | 64 => ⟨S_, .i32⟩
  | 65 => ⟨S7168x9216, .i32⟩
  | 66 => ⟨S7168x9216, .i1⟩
  | 67 => ⟨S_, .i32⟩
  | 68 => ⟨S7168x9216, .i32⟩
  | 69 => ⟨S7168x9216, .i32⟩
  | 70 => ⟨S_, .i32⟩
  | 71 => ⟨S7168x9216, .i32⟩
  | 72 => ⟨S7168x9216, .i32⟩
  | 73 => ⟨S_, .i32⟩
  | 74 => ⟨S7168x9216, .i32⟩
  | 75 => ⟨S7168x9216, .i1⟩
  | 76 => ⟨S_, .f32⟩
  | 77 => ⟨S_, .f32⟩
  | 78 => ⟨S7168x9216, .f32⟩
  | 79 => ⟨S7168x9216, .f32⟩
  | 80 => ⟨S7168x9216, .f32⟩
  | 81 => ⟨S_, .f32⟩
  | 82 => ⟨S_, .f32⟩
  | 83 => ⟨S7168x9216, .f32⟩
  | 84 => ⟨S7168x9216, .f32⟩
  | 85 => ⟨S7168x9216, .f32⟩
  | 86 => ⟨S7168x9216, .f32⟩
  | 87 => ⟨S_, .f32⟩
  | 88 => ⟨S_, .f32⟩
  | 89 => ⟨S7168x9216, .f32⟩
  | 90 => ⟨S7168x9216, .f32⟩
  | 91 => ⟨S7168x9216, .f32⟩
  | 92 => ⟨S_, .f32⟩
  | 93 => ⟨S_, .f32⟩
  | 94 => ⟨S7168x9216, .f32⟩
  | 95 => ⟨S7168x9216, .f32⟩
  | 96 => ⟨S7168x9216, .f32⟩
  | 97 => ⟨S7168x9216, .f32⟩
  | 98 => ⟨S7168x9216, .f32⟩
  | 99 => ⟨S7168x9216, .f32⟩
  | 100 => ⟨S7168x9216, .f32⟩
  | 101 => ⟨S7168x9216, .f32⟩
  | 102 => ⟨S224x32x9216, .f32⟩
  | 103 => ⟨S224x9216, .i32⟩
  | 104 => ⟨S_, .i32⟩
  | 105 => ⟨S224x9216, .i32⟩
  | 106 => ⟨S224x9216, .i32⟩
  | 107 => ⟨S224x9216, .f32⟩
  | 108 => ⟨S_, .f32⟩
  | 109 => ⟨S224x9216, .f32⟩
  | 110 => ⟨S224x9216, .f32⟩
  | 111 => ⟨S224x1x9216, .f32⟩
  | 112 => ⟨S224x32x9216, .f32⟩
  | 113 => ⟨S224x32x9216, .f32⟩
  | 114 => ⟨S7168x9216, .f32⟩
  | 115 => ⟨S7168x9216, .bf16⟩
  | 116 => ⟨S_, .i32⟩
  | 117 => ⟨S7168x9216, .i32⟩
  | 118 => ⟨S7168x9216, .i32⟩
  | 119 => ⟨S224x9216, .i8⟩
  | 120 => ⟨S_, .i32⟩
  | 121 => ⟨S7168x9216, .i32⟩
  | 122 => ⟨S7168x9216, .i32⟩
  | 123 => ⟨S_, .i32⟩
  | 124 => ⟨S7168x9216, .i32⟩
  | 125 => ⟨S7168x9216, .i1⟩
  | 126 => ⟨S_, .i32⟩
  | 127 => ⟨S7168x9216, .i32⟩
  | _ => ⟨S6144x7168, .bf16⟩

abbrev hbmTy0_2 (i : Nat) : BufTy := match i % 128 with
  | 0 => ⟨S7168x9216, .i32⟩
  | 1 => ⟨S_, .i32⟩
  | 2 => ⟨S7168x9216, .i32⟩
  | 3 => ⟨S7168x9216, .i32⟩
  | 4 => ⟨S_, .i32⟩
  | 5 => ⟨S7168x9216, .i32⟩
  | 6 => ⟨S7168x9216, .i1⟩
  | 7 => ⟨S_, .i32⟩
  | 8 => ⟨S7168x9216, .i32⟩
  | 9 => ⟨S7168x9216, .i32⟩
  | 10 => ⟨S_, .i32⟩
  | 11 => ⟨S7168x9216, .i32⟩
  | 12 => ⟨S7168x9216, .i32⟩
  | 13 => ⟨S_, .i32⟩
  | 14 => ⟨S7168x9216, .i32⟩
  | 15 => ⟨S7168x9216, .i1⟩
  | 16 => ⟨S_, .i32⟩
  | 17 => ⟨S7168x9216, .i32⟩
  | 18 => ⟨S7168x9216, .i32⟩
  | 19 => ⟨S_, .i32⟩
  | 20 => ⟨S7168x9216, .i32⟩
  | 21 => ⟨S7168x9216, .i32⟩
  | 22 => ⟨S_, .i32⟩
  | 23 => ⟨S7168x9216, .i32⟩
  | 24 => ⟨S7168x9216, .i1⟩
  | 25 => ⟨S_, .f32⟩
  | 26 => ⟨S_, .f32⟩
  | 27 => ⟨S7168x9216, .f32⟩
  | 28 => ⟨S7168x9216, .f32⟩
  | 29 => ⟨S7168x9216, .f32⟩
  | 30 => ⟨S_, .f32⟩
  | 31 => ⟨S_, .f32⟩
  | 32 => ⟨S7168x9216, .f32⟩
  | 33 => ⟨S7168x9216, .f32⟩
  | 34 => ⟨S7168x9216, .f32⟩
  | 35 => ⟨S7168x9216, .f32⟩
  | 36 => ⟨S_, .f32⟩
  | 37 => ⟨S_, .f32⟩
  | 38 => ⟨S7168x9216, .f32⟩
  | 39 => ⟨S7168x9216, .f32⟩
  | 40 => ⟨S7168x9216, .f32⟩
  | 41 => ⟨S_, .f32⟩
  | 42 => ⟨S_, .f32⟩
  | 43 => ⟨S7168x9216, .f32⟩
  | 44 => ⟨S7168x9216, .f32⟩
  | 45 => ⟨S7168x9216, .f32⟩
  | 46 => ⟨S7168x9216, .f32⟩
  | 47 => ⟨S7168x9216, .f32⟩
  | 48 => ⟨S7168x9216, .f32⟩
  | 49 => ⟨S7168x9216, .f32⟩
  | 50 => ⟨S7168x9216, .f32⟩
  | 51 => ⟨S224x32x9216, .f32⟩
  | 52 => ⟨S224x9216, .i32⟩
  | 53 => ⟨S_, .i32⟩
  | 54 => ⟨S224x9216, .i32⟩
  | 55 => ⟨S224x9216, .i32⟩
  | 56 => ⟨S224x9216, .f32⟩
  | 57 => ⟨S_, .f32⟩
  | 58 => ⟨S224x9216, .f32⟩
  | 59 => ⟨S224x9216, .f32⟩
  | 60 => ⟨S224x1x9216, .f32⟩
  | 61 => ⟨S224x32x9216, .f32⟩
  | 62 => ⟨S224x32x9216, .f32⟩
  | 63 => ⟨S7168x9216, .f32⟩
  | 64 => ⟨S7168x9216, .bf16⟩
  | 65 => ⟨S6144x9216, .f32⟩
  | 66 => ⟨S6144x9216, .f32⟩
  | 67 => ⟨S6144x9216x1, .f32⟩
  | 68 => ⟨S6144x9216x1, .f32⟩
  | 69 => ⟨S6144x9216x2, .f32⟩
  | 70 => ⟨S6144x18432, .f32⟩
  | 71 => ⟨S6144x18432, .f32⟩
  | 72 => ⟨S6144x18432, .f32⟩
  | 73 => ⟨S_, .f32⟩
  | 74 => ⟨S6144x18432, .f32⟩
  | 75 => ⟨S6144x18432, .f32⟩
  | 76 => ⟨S_, .f32⟩
  | 77 => ⟨S6144x18432, .f32⟩
  | 78 => ⟨S6144x18432, .f32⟩
  | 79 => ⟨S6144x18432, .f32⟩
  | 80 => ⟨S6144x18432, .f32⟩
  | 81 => ⟨S6144x18432, .bf16⟩
  | _ => ⟨S6144x7168, .bf16⟩

abbrev hbmTy (i : Nat) : BufTy := match i / 128 with
  | 0 => hbmTy0_0 i
  | 1 => hbmTy0_1 i
  | 2 => hbmTy0_2 i
  | _ => ⟨S6144x7168, .bf16⟩

abbrev bufTy : (tb : Table) → Fin (tcTables nBuf tb) → BufTy
  | .hbm, ⟨i, _⟩ => hbmTy i
  | _, _ => ⟨S6144x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_c_4 : Ref sig .tc := ⟨.hbm, 22, rfl⟩
abbrev main_v12 : Ref sig .tc := ⟨.hbm, 23, rfl⟩
abbrev main_v13 : Ref sig .tc := ⟨.hbm, 24, rfl⟩
abbrev main_c_5 : Ref sig .tc := ⟨.hbm, 25, rfl⟩
abbrev main_v14 : Ref sig .tc := ⟨.hbm, 26, rfl⟩
abbrev main_v15 : Ref sig .tc := ⟨.hbm, 27, rfl⟩
abbrev main_c_6 : Ref sig .tc := ⟨.hbm, 28, rfl⟩
abbrev main_v16 : Ref sig .tc := ⟨.hbm, 29, rfl⟩
abbrev main_v17 : Ref sig .tc := ⟨.hbm, 30, rfl⟩
abbrev main_c_7 : Ref sig .tc := ⟨.hbm, 31, rfl⟩
abbrev main_v18 : Ref sig .tc := ⟨.hbm, 32, rfl⟩
abbrev main_v19 : Ref sig .tc := ⟨.hbm, 33, rfl⟩
abbrev main_c_8 : Ref sig .tc := ⟨.hbm, 34, rfl⟩
abbrev main_v20 : Ref sig .tc := ⟨.hbm, 35, rfl⟩
abbrev main_v21 : Ref sig .tc := ⟨.hbm, 36, rfl⟩
abbrev main_c_9 : Ref sig .tc := ⟨.hbm, 37, rfl⟩
abbrev main_v22 : Ref sig .tc := ⟨.hbm, 38, rfl⟩
abbrev main_v23 : Ref sig .tc := ⟨.hbm, 39, rfl⟩
abbrev main_c_10 : Ref sig .tc := ⟨.hbm, 40, rfl⟩
abbrev main_v24 : Ref sig .tc := ⟨.hbm, 41, rfl⟩
abbrev main_v25 : Ref sig .tc := ⟨.hbm, 42, rfl⟩
abbrev main_cst : Ref sig .tc := ⟨.hbm, 43, rfl⟩
abbrev main_cst_11 : Ref sig .tc := ⟨.hbm, 44, rfl⟩
abbrev main_call0_v0 : Ref sig .tc := ⟨.hbm, 45, rfl⟩
abbrev main_call0_v1 : Ref sig .tc := ⟨.hbm, 46, rfl⟩
abbrev main_v26 : Ref sig .tc := ⟨.hbm, 47, rfl⟩
abbrev main_cst_12 : Ref sig .tc := ⟨.hbm, 48, rfl⟩
abbrev main_cst_13 : Ref sig .tc := ⟨.hbm, 49, rfl⟩
abbrev main_call1_v0 : Ref sig .tc := ⟨.hbm, 50, rfl⟩
abbrev main_call1_v1 : Ref sig .tc := ⟨.hbm, 51, rfl⟩
abbrev main_v27 : Ref sig .tc := ⟨.hbm, 52, rfl⟩
abbrev main_v28 : Ref sig .tc := ⟨.hbm, 53, rfl⟩
abbrev main_cst_14 : Ref sig .tc := ⟨.hbm, 54, rfl⟩
abbrev main_cst_15 : Ref sig .tc := ⟨.hbm, 55, rfl⟩
abbrev main_call3_v0 : Ref sig .tc := ⟨.hbm, 56, rfl⟩
abbrev main_call3_v1 : Ref sig .tc := ⟨.hbm, 57, rfl⟩
abbrev main_v29 : Ref sig .tc := ⟨.hbm, 58, rfl⟩
abbrev main_cst_16 : Ref sig .tc := ⟨.hbm, 59, rfl⟩
abbrev main_cst_17 : Ref sig .tc := ⟨.hbm, 60, rfl⟩
abbrev main_call4_v0 : Ref sig .tc := ⟨.hbm, 61, rfl⟩
abbrev main_call4_v1 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_c_18 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_19 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_c_20 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_c_21 : Ref sig .tc := ⟨.hbm, 87, rfl⟩
abbrev main_v51 : Ref sig .tc := ⟨.hbm, 88, rfl⟩
abbrev main_v52 : Ref sig .tc := ⟨.hbm, 89, rfl⟩
abbrev main_c_22 : Ref sig .tc := ⟨.hbm, 90, rfl⟩
abbrev main_v53 : Ref sig .tc := ⟨.hbm, 91, rfl⟩
abbrev main_v54 : Ref sig .tc := ⟨.hbm, 92, rfl⟩
abbrev main_c_23 : Ref sig .tc := ⟨.hbm, 93, rfl⟩
abbrev main_v55 : Ref sig .tc := ⟨.hbm, 94, rfl⟩
abbrev main_v56 : Ref sig .tc := ⟨.hbm, 95, rfl⟩
abbrev main_c_24 : Ref sig .tc := ⟨.hbm, 96, rfl⟩
abbrev main_v57 : Ref sig .tc := ⟨.hbm, 97, rfl⟩
abbrev main_v58 : Ref sig .tc := ⟨.hbm, 98, rfl⟩
abbrev main_c_25 : Ref sig .tc := ⟨.hbm, 99, rfl⟩
abbrev main_v59 : Ref sig .tc := ⟨.hbm, 100, rfl⟩
abbrev main_v60 : Ref sig .tc := ⟨.hbm, 101, rfl⟩
abbrev main_c_26 : Ref sig .tc := ⟨.hbm, 102, rfl⟩
abbrev main_v61 : Ref sig .tc := ⟨.hbm, 103, rfl⟩
abbrev main_v62 : Ref sig .tc := ⟨.hbm, 104, rfl⟩
abbrev main_c_27 : Ref sig .tc := ⟨.hbm, 105, rfl⟩
abbrev main_v63 : Ref sig .tc := ⟨.hbm, 106, rfl⟩
abbrev main_v64 : Ref sig .tc := ⟨.hbm, 107, rfl⟩
abbrev main_c_28 : Ref sig .tc := ⟨.hbm, 108, rfl⟩
abbrev main_v65 : Ref sig .tc := ⟨.hbm, 109, rfl⟩
abbrev main_v66 : Ref sig .tc := ⟨.hbm, 110, rfl⟩
abbrev main_c_29 : Ref sig .tc := ⟨.hbm, 111, rfl⟩
abbrev main_v67 : Ref sig .tc := ⟨.hbm, 112, rfl⟩
abbrev main_v68 : Ref sig .tc := ⟨.hbm, 113, rfl⟩
abbrev main_c_30 : Ref sig .tc := ⟨.hbm, 114, rfl⟩
abbrev main_v69 : Ref sig .tc := ⟨.hbm, 115, rfl⟩
abbrev main_v70 : Ref sig .tc := ⟨.hbm, 116, rfl⟩
abbrev main_c_31 : Ref sig .tc := ⟨.hbm, 117, rfl⟩
abbrev main_v71 : Ref sig .tc := ⟨.hbm, 118, rfl⟩
abbrev main_v72 : Ref sig .tc := ⟨.hbm, 119, rfl⟩
abbrev main_cst_32 : Ref sig .tc := ⟨.hbm, 120, rfl⟩
abbrev main_cst_33 : Ref sig .tc := ⟨.hbm, 121, rfl⟩
abbrev main_call8_v0 : Ref sig .tc := ⟨.hbm, 122, rfl⟩
abbrev main_call8_v1 : Ref sig .tc := ⟨.hbm, 123, rfl⟩
abbrev main_v73 : Ref sig .tc := ⟨.hbm, 124, rfl⟩
abbrev main_cst_34 : Ref sig .tc := ⟨.hbm, 125, rfl⟩
abbrev main_cst_35 : Ref sig .tc := ⟨.hbm, 126, rfl⟩
abbrev main_call9_v0 : Ref sig .tc := ⟨.hbm, 127, rfl⟩
abbrev main_call9_v1 : Ref sig .tc := ⟨.hbm, 128, rfl⟩
abbrev main_v74 : Ref sig .tc := ⟨.hbm, 129, rfl⟩
abbrev main_v75 : Ref sig .tc := ⟨.hbm, 130, rfl⟩
abbrev main_cst_36 : Ref sig .tc := ⟨.hbm, 131, rfl⟩
abbrev main_cst_37 : Ref sig .tc := ⟨.hbm, 132, rfl⟩
abbrev main_call11_v0 : Ref sig .tc := ⟨.hbm, 133, rfl⟩
abbrev main_call11_v1 : Ref sig .tc := ⟨.hbm, 134, rfl⟩
abbrev main_v76 : Ref sig .tc := ⟨.hbm, 135, rfl⟩
abbrev main_cst_38 : Ref sig .tc := ⟨.hbm, 136, rfl⟩
abbrev main_cst_39 : Ref sig .tc := ⟨.hbm, 137, rfl⟩
abbrev main_call12_v0 : Ref sig .tc := ⟨.hbm, 138, rfl⟩
abbrev main_call12_v1 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_c_40 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_cst_41 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_c_42 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_c_43 : Ref sig .tc := ⟨.hbm, 171, rfl⟩
abbrev main_v105 : Ref sig .tc := ⟨.hbm, 172, rfl⟩
abbrev main_v106 : Ref sig .tc := ⟨.hbm, 173, rfl⟩
abbrev main_c_44 : Ref sig .tc := ⟨.hbm, 174, rfl⟩
abbrev main_v107 : Ref sig .tc := ⟨.hbm, 175, rfl⟩
abbrev main_v108 : Ref sig .tc := ⟨.hbm, 176, rfl⟩
abbrev main_c_45 : Ref sig .tc := ⟨.hbm, 177, rfl⟩
abbrev main_v109 : Ref sig .tc := ⟨.hbm, 178, rfl⟩
abbrev main_v110 : Ref sig .tc := ⟨.hbm, 179, rfl⟩
abbrev main_c_46 : Ref sig .tc := ⟨.hbm, 180, rfl⟩
abbrev main_v111 : Ref sig .tc := ⟨.hbm, 181, rfl⟩
abbrev main_v112 : Ref sig .tc := ⟨.hbm, 182, rfl⟩
abbrev main_c_47 : Ref sig .tc := ⟨.hbm, 183, rfl⟩
abbrev main_v113 : Ref sig .tc := ⟨.hbm, 184, rfl⟩
abbrev main_v114 : Ref sig .tc := ⟨.hbm, 185, rfl⟩
abbrev main_c_48 : Ref sig .tc := ⟨.hbm, 186, rfl⟩
abbrev main_v115 : Ref sig .tc := ⟨.hbm, 187, rfl⟩
abbrev main_v116 : Ref sig .tc := ⟨.hbm, 188, rfl⟩
abbrev main_c_49 : Ref sig .tc := ⟨.hbm, 189, rfl⟩
abbrev main_v117 : Ref sig .tc := ⟨.hbm, 190, rfl⟩
abbrev main_v118 : Ref sig .tc := ⟨.hbm, 191, rfl⟩
abbrev main_c_50 : Ref sig .tc := ⟨.hbm, 192, rfl⟩
abbrev main_v119 : Ref sig .tc := ⟨.hbm, 193, rfl⟩
abbrev main_v120 : Ref sig .tc := ⟨.hbm, 194, rfl⟩
abbrev main_c_51 : Ref sig .tc := ⟨.hbm, 195, rfl⟩
abbrev main_v121 : Ref sig .tc := ⟨.hbm, 196, rfl⟩
abbrev main_v122 : Ref sig .tc := ⟨.hbm, 197, rfl⟩
abbrev main_c_52 : Ref sig .tc := ⟨.hbm, 198, rfl⟩
abbrev main_v123 : Ref sig .tc := ⟨.hbm, 199, rfl⟩
abbrev main_v124 : Ref sig .tc := ⟨.hbm, 200, rfl⟩
abbrev main_c_53 : Ref sig .tc := ⟨.hbm, 201, rfl⟩
abbrev main_v125 : Ref sig .tc := ⟨.hbm, 202, rfl⟩
abbrev main_v126 : Ref sig .tc := ⟨.hbm, 203, rfl⟩
abbrev main_cst_54 : Ref sig .tc := ⟨.hbm, 204, rfl⟩
abbrev main_cst_55 : Ref sig .tc := ⟨.hbm, 205, rfl⟩
abbrev main_call16_v0 : Ref sig .tc := ⟨.hbm, 206, rfl⟩
abbrev main_call16_v1 : Ref sig .tc := ⟨.hbm, 207, rfl⟩
abbrev main_v127 : Ref sig .tc := ⟨.hbm, 208, rfl⟩
abbrev main_cst_56 : Ref sig .tc := ⟨.hbm, 209, rfl⟩
abbrev main_cst_57 : Ref sig .tc := ⟨.hbm, 210, rfl⟩
abbrev main_call17_v0 : Ref sig .tc := ⟨.hbm, 211, rfl⟩
abbrev main_call17_v1 : Ref sig .tc := ⟨.hbm, 212, rfl⟩
abbrev main_v128 : Ref sig .tc := ⟨.hbm, 213, rfl⟩
abbrev main_v129 : Ref sig .tc := ⟨.hbm, 214, rfl⟩
abbrev main_cst_58 : Ref sig .tc := ⟨.hbm, 215, rfl⟩
abbrev main_cst_59 : Ref sig .tc := ⟨.hbm, 216, rfl⟩
abbrev main_call19_v0 : Ref sig .tc := ⟨.hbm, 217, rfl⟩
abbrev main_call19_v1 : Ref sig .tc := ⟨.hbm, 218, rfl⟩
abbrev main_v130 : Ref sig .tc := ⟨.hbm, 219, rfl⟩
abbrev main_cst_60 : Ref sig .tc := ⟨.hbm, 220, rfl⟩
abbrev main_cst_61 : Ref sig .tc := ⟨.hbm, 221, rfl⟩
abbrev main_call20_v0 : Ref sig .tc := ⟨.hbm, 222, rfl⟩
abbrev main_call20_v1 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_v134 : Ref sig .tc := ⟨.hbm, 227, rfl⟩
abbrev main_v135 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_c_62 : Ref sig .tc := ⟨.hbm, 232, rfl⟩
abbrev main_v139 : Ref sig .tc := ⟨.hbm, 233, rfl⟩
abbrev main_v140 : Ref sig .tc := ⟨.hbm, 234, rfl⟩
abbrev main_v141 : Ref sig .tc := ⟨.hbm, 235, rfl⟩
abbrev main_cst_63 : Ref sig .tc := ⟨.hbm, 236, rfl⟩
abbrev main_v142 : Ref sig .tc := ⟨.hbm, 237, rfl⟩
abbrev main_v143 : Ref sig .tc := ⟨.hbm, 238, rfl⟩
abbrev main_v144 : Ref sig .tc := ⟨.hbm, 239, rfl⟩
abbrev main_v145 : Ref sig .tc := ⟨.hbm, 240, rfl⟩
abbrev main_v146 : Ref sig .tc := ⟨.hbm, 241, rfl⟩
abbrev main_v147 : Ref sig .tc := ⟨.hbm, 242, rfl⟩
abbrev main_v148 : Ref sig .tc := ⟨.hbm, 243, rfl⟩
abbrev main_c_64 : Ref sig .tc := ⟨.hbm, 244, rfl⟩
abbrev main_v149 : Ref sig .tc := ⟨.hbm, 245, rfl⟩
abbrev main_v150 : Ref sig .tc := ⟨.hbm, 246, rfl⟩
abbrev main_v151 : Ref sig .tc := ⟨.hbm, 247, rfl⟩
abbrev main_c_65 : Ref sig .tc := ⟨.hbm, 248, rfl⟩
abbrev main_v152 : Ref sig .tc := ⟨.hbm, 249, rfl⟩
abbrev main_v153 : Ref sig .tc := ⟨.hbm, 250, rfl⟩
abbrev main_c_66 : Ref sig .tc := ⟨.hbm, 251, rfl⟩
abbrev main_v154 : Ref sig .tc := ⟨.hbm, 252, rfl⟩
abbrev main_v155 : Ref sig .tc := ⟨.hbm, 253, rfl⟩
abbrev main_c_67 : Ref sig .tc := ⟨.hbm, 254, rfl⟩
abbrev main_v156 : Ref sig .tc := ⟨.hbm, 255, rfl⟩
abbrev main_v157 : Ref sig .tc := ⟨.hbm, 256, rfl⟩
abbrev main_c_68 : Ref sig .tc := ⟨.hbm, 257, rfl⟩
abbrev main_v158 : Ref sig .tc := ⟨.hbm, 258, rfl⟩
abbrev main_v159 : Ref sig .tc := ⟨.hbm, 259, rfl⟩
abbrev main_c_69 : Ref sig .tc := ⟨.hbm, 260, rfl⟩
abbrev main_v160 : Ref sig .tc := ⟨.hbm, 261, rfl⟩
abbrev main_v161 : Ref sig .tc := ⟨.hbm, 262, rfl⟩
abbrev main_c_70 : Ref sig .tc := ⟨.hbm, 263, rfl⟩
abbrev main_v162 : Ref sig .tc := ⟨.hbm, 264, rfl⟩
abbrev main_v163 : Ref sig .tc := ⟨.hbm, 265, rfl⟩
abbrev main_c_71 : Ref sig .tc := ⟨.hbm, 266, rfl⟩
abbrev main_v164 : Ref sig .tc := ⟨.hbm, 267, rfl⟩
abbrev main_v165 : Ref sig .tc := ⟨.hbm, 268, rfl⟩
abbrev main_c_72 : Ref sig .tc := ⟨.hbm, 269, rfl⟩
abbrev main_v166 : Ref sig .tc := ⟨.hbm, 270, rfl⟩
abbrev main_v167 : Ref sig .tc := ⟨.hbm, 271, rfl⟩
abbrev main_c_73 : Ref sig .tc := ⟨.hbm, 272, rfl⟩
abbrev main_v168 : Ref sig .tc := ⟨.hbm, 273, rfl⟩
abbrev main_v169 : Ref sig .tc := ⟨.hbm, 274, rfl⟩
abbrev main_c_74 : Ref sig .tc := ⟨.hbm, 275, rfl⟩
abbrev main_v170 : Ref sig .tc := ⟨.hbm, 276, rfl⟩
abbrev main_v171 : Ref sig .tc := ⟨.hbm, 277, rfl⟩
abbrev main_c_75 : Ref sig .tc := ⟨.hbm, 278, rfl⟩
abbrev main_v172 : Ref sig .tc := ⟨.hbm, 279, rfl⟩
abbrev main_v173 : Ref sig .tc := ⟨.hbm, 280, rfl⟩
abbrev main_cst_76 : Ref sig .tc := ⟨.hbm, 281, rfl⟩
abbrev main_cst_77 : Ref sig .tc := ⟨.hbm, 282, rfl⟩
abbrev main_call24_v0 : Ref sig .tc := ⟨.hbm, 283, rfl⟩
abbrev main_call24_v1 : Ref sig .tc := ⟨.hbm, 284, rfl⟩
abbrev main_v174 : Ref sig .tc := ⟨.hbm, 285, rfl⟩
abbrev main_cst_78 : Ref sig .tc := ⟨.hbm, 286, rfl⟩
abbrev main_cst_79 : Ref sig .tc := ⟨.hbm, 287, rfl⟩
abbrev main_call25_v0 : Ref sig .tc := ⟨.hbm, 288, rfl⟩
abbrev main_call25_v1 : Ref sig .tc := ⟨.hbm, 289, rfl⟩
abbrev main_v175 : Ref sig .tc := ⟨.hbm, 290, rfl⟩
abbrev main_v176 : Ref sig .tc := ⟨.hbm, 291, rfl⟩
abbrev main_cst_80 : Ref sig .tc := ⟨.hbm, 292, rfl⟩
abbrev main_cst_81 : Ref sig .tc := ⟨.hbm, 293, rfl⟩
abbrev main_call27_v0 : Ref sig .tc := ⟨.hbm, 294, rfl⟩
abbrev main_call27_v1 : Ref sig .tc := ⟨.hbm, 295, rfl⟩
abbrev main_v177 : Ref sig .tc := ⟨.hbm, 296, rfl⟩
abbrev main_cst_82 : Ref sig .tc := ⟨.hbm, 297, rfl⟩
abbrev main_cst_83 : Ref sig .tc := ⟨.hbm, 298, rfl⟩
abbrev main_call28_v0 : Ref sig .tc := ⟨.hbm, 299, rfl⟩
abbrev main_call28_v1 : Ref sig .tc := ⟨.hbm, 300, rfl⟩
abbrev main_v178 : Ref sig .tc := ⟨.hbm, 301, rfl⟩
abbrev main_v179 : Ref sig .tc := ⟨.hbm, 302, rfl⟩
abbrev main_v180 : Ref sig .tc := ⟨.hbm, 303, rfl⟩
abbrev main_v181 : Ref sig .tc := ⟨.hbm, 304, rfl⟩
abbrev main_v182 : Ref sig .tc := ⟨.hbm, 305, rfl⟩
abbrev main_v183 : Ref sig .tc := ⟨.hbm, 306, rfl⟩
abbrev main_v184 : Ref sig .tc := ⟨.hbm, 307, rfl⟩
abbrev main_v185 : Ref sig .tc := ⟨.hbm, 308, rfl⟩
abbrev main_c_84 : Ref sig .tc := ⟨.hbm, 309, rfl⟩
abbrev main_v186 : Ref sig .tc := ⟨.hbm, 310, rfl⟩
abbrev main_v187 : Ref sig .tc := ⟨.hbm, 311, rfl⟩
abbrev main_v188 : Ref sig .tc := ⟨.hbm, 312, rfl⟩
abbrev main_cst_85 : Ref sig .tc := ⟨.hbm, 313, rfl⟩
abbrev main_v189 : Ref sig .tc := ⟨.hbm, 314, rfl⟩
abbrev main_v190 : Ref sig .tc := ⟨.hbm, 315, rfl⟩
abbrev main_v191 : Ref sig .tc := ⟨.hbm, 316, rfl⟩
abbrev main_v192 : Ref sig .tc := ⟨.hbm, 317, rfl⟩
abbrev main_v193 : Ref sig .tc := ⟨.hbm, 318, rfl⟩
abbrev main_v194 : Ref sig .tc := ⟨.hbm, 319, rfl⟩
abbrev main_v195 : Ref sig .tc := ⟨.hbm, 320, rfl⟩
abbrev main_v196 : Ref sig .tc := ⟨.hbm, 321, rfl⟩
abbrev main_v197 : Ref sig .tc := ⟨.hbm, 322, rfl⟩
abbrev main_v198 : Ref sig .tc := ⟨.hbm, 323, rfl⟩
abbrev main_v199 : Ref sig .tc := ⟨.hbm, 324, rfl⟩
abbrev main_v200 : Ref sig .tc := ⟨.hbm, 325, rfl⟩
abbrev main_v201 : Ref sig .tc := ⟨.hbm, 326, rfl⟩
abbrev main_call32_v0 : Ref sig .tc := ⟨.hbm, 327, rfl⟩
abbrev main_call32_v1 : Ref sig .tc := ⟨.hbm, 328, rfl⟩
abbrev main_call32_cst : Ref sig .tc := ⟨.hbm, 329, rfl⟩
abbrev main_call32_v2 : Ref sig .tc := ⟨.hbm, 330, rfl⟩
abbrev main_call32_v3 : Ref sig .tc := ⟨.hbm, 331, rfl⟩
abbrev main_call32_cst_0 : Ref sig .tc := ⟨.hbm, 332, rfl⟩
abbrev main_call32_v4 : Ref sig .tc := ⟨.hbm, 333, rfl⟩
abbrev main_call32_v5 : Ref sig .tc := ⟨.hbm, 334, rfl⟩
abbrev main_v202 : Ref sig .tc := ⟨.hbm, 335, rfl⟩
abbrev main_v203 : Ref sig .tc := ⟨.hbm, 336, rfl⟩
abbrev main_v204 : Ref sig .tc := ⟨.hbm, 337, rfl⟩

abbrev nD : Nat := 1
abbrev τ : Topo := Topo.v7x

variable {F : FTy → Type} [FloatOps F]
-- ==== Proof.KernelRun.lean ====
/- The printed kernel's body, run over any float values: which of its conditionals each grid point takes, and the body's
   triple with the output and the scratch buffers left at contents nothing names. The frame of the printed kernel
   (KernelFrame.lean) needs no more of it. The text follows the generated frame of a kernel whose outputs nothing reads,
   with its four cases made one. -/
module

public import proofs.«01_k».proof.Proof.Gen.Kernel.Frame
public import proofs.«01_k».proof.Proof.Gen.Kernel.Skeleton
public import proofs.«01_k».proof.Proof.Gen.Kernel.Loops

@[expose] public section

-- membership in a rectangle of production extents (`View.cover_of_tiled`): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates. -/
abbrev cond0_0 (i : grid0.Coords) : Prop := k0_cond1 i = 1#1
/-- It holds at the points ≡ 0 (mod 2) — decided over the grid. -/
theorem hcond0_0 : ∀ t : Fin cfg0.N, cond0_0 (grid0.coords t) ↔ t.val % 2 = 0 :=
  (by decide +kernel : ∀ t : Fin grid0.N, cond0_0 (grid0.coords t) ↔ t.val % 2 = 0)

/-- The condition of the body's `scf.if` 1 (`k0_h2`), from the grid coordinates. -/
abbrev cond0_1 (i : grid0.Coords) : Prop := k0_cond2 i = 1#1
/-- It holds at the points before point 432 — decided over the grid. -/
theorem hcond0_1 : ∀ t : Fin cfg0.N, cond0_1 (grid0.coords t) ↔ t.val < 432 :=
  (by decide +kernel : ∀ t : Fin grid0.N, cond0_1 (grid0.coords t) ↔ t.val < 432)

/-- The condition of the body's `scf.if` 2 (`k0_h3`), from the grid coordinates. -/
abbrev cond0_2 (i : grid0.Coords) : Prop := k0_cond3 i = 1#1
/-- It holds at the points from point 1 on — decided over the grid. -/
theorem hcond0_2 : ∀ t : Fin cfg0.N, cond0_2 (grid0.coords t) ↔ 1 ≤ t.val :=
  (by decide +kernel : ∀ t : Fin grid0.N, cond0_2 (grid0.coords t) ↔ 1 ≤ t.val)

/-- The condition of the body's `scf.if` 3 (`k0_h4`), from the grid coordinates. -/
abbrev cond0_3 (i : grid0.Coords) : Prop := k0_cond4 i = 1#1
/-- It holds at the points ≡ 1 (mod 2) — decided over the grid. -/
theorem hcond0_3 : ∀ t : Fin cfg0.N, cond0_3 (grid0.coords t) ↔ t.val % 2 = 1 :=
  (by decide +kernel : ∀ t : Fin grid0.N, cond0_3 (grid0.coords t) ↔ t.val % 2 = 1)

/-- The condition of the body's `scf.if` 4 (`k0_h5`), from the grid coordinates. -/
abbrev cond0_4 (i : grid0.Coords) : Prop := k0_cond5 i = 1#1
/-- It holds at the points before point 432 — decided over the grid. -/
theorem hcond0_4 : ∀ t : Fin cfg0.N, cond0_4 (grid0.coords t) ↔ t.val < 432 :=
  (by decide +kernel : ∀ t : Fin grid0.N, cond0_4 (grid0.coords t) ↔ t.val < 432)

/-- The condition of the body's `scf.if` 5 (`k0_h6`), from the grid coordinates. -/
abbrev cond0_5 (i : grid0.Coords) : Prop := k0_cond6 i = 1#1
/-- It holds at the points from point 1 on — decided over the grid. -/
theorem hcond0_5 : ∀ t : Fin cfg0.N, cond0_5 (grid0.coords t) ↔ 1 ≤ t.val :=
  (by decide +kernel : ∀ t : Fin grid0.N, cond0_5 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The buffers the body is called on -/

/-- Each window's current staging memref at point `t`, spelled as the pipeline passes it (`bodyAt0`), and its wholeness. -/
abbrev ms0_0 (t : Fin cfg0.N) : Memref sig .tc .vmem S1024x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S7168x128 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S224x256 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S7168x128 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S224x256 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S7168x256 .bf16 := Memref.whole cc0_scratch0
abbrev scM0_1 : Memref sig .tc .vmem S7168x256 .bf16 := Memref.whole cc0_scratch1
abbrev scM0_2 : Memref sig .tc .vmem S7168x256 .bf16 := Memref.whole cc0_scratch2
abbrev scM0_3 : Memref sig .tc .vmem S7168x256 .bf16 := Memref.whole cc0_scratch3
abbrev scM0_4 : Memref sig .tc .vmem S2x224x128 .i32 := Memref.whole cc0_scratch4
abbrev scM0_5 : Memref sig .tc .vmem S2x224x128 .i32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-! ## The four courses of the body

The even branch is the conditionals 0 to 2, the odd branch 3 to 5; the branch a point does not take leaves its inner
conditionals unread. -/

/-- Which conditionals a point takes: the first point, the odd points, the even points between, and the last point. -/
def Course (i : grid0.Coords) : Prop :=
  (cond0_0 i ∧ cond0_1 i ∧ ¬cond0_2 i ∧ ¬cond0_3 i) ∨ (¬cond0_0 i ∧ cond0_3 i ∧ cond0_4 i ∧ cond0_5 i)
    ∨ (cond0_0 i ∧ cond0_1 i ∧ cond0_2 i ∧ ¬cond0_3 i) ∨ (cond0_0 i ∧ ¬cond0_1 i ∧ cond0_2 i ∧ ¬cond0_3 i)

/-- Every point takes one of the four courses. -/
theorem course (t : Fin cfg0.N) : Course (grid0.coords t) := by
  have hN : t.val < 433 := lt_of_lt_of_eq t.isLt (show cfg0.N = 433 from N_0)
  unfold Course
  rw [hcond0_0 t, hcond0_1 t, hcond0_2 t, hcond0_3 t, hcond0_4 t, hcond0_5 t]
  omega

-- (the run's proof term is large: checking it walks past the default budget)
set_option maxHeartbeats 1000000 in
/-- The body's triple on whole memrefs, whichever course the point takes: given the five input blocks at their contents and
    the output block and the scratch buffers at anything, the body runs and gives the inputs back as they were and the
    others at some contents. The conditionals are decided by the course's hypotheses; the steps are the same in all four. -/
theorem kernelRun (c : Dev nD) (i : grid0.Coords) (arg1 : Memref sig .tc .vmem S1024x7168 .bf16) (harg1 : arg1.IsWhole) (arg2 : Memref sig .tc .vmem S7168x128 .i8) (harg2 : arg2.IsWhole) (arg3 : Memref sig .tc .vmem S224x256 .i8) (harg3 : arg3.IsWhole) (arg4 : Memref sig .tc .vmem S7168x128 .i8) (harg4 : arg4.IsWhole) (arg5 : Memref sig .tc .vmem S224x256 .i8) (harg5 : arg5.IsWhole) (arg6 : Memref sig .tc .vmem S1024x256 .bf16) (harg6 : arg6.IsWhole) (arg7 : Memref sig .tc .vmem S7168x256 .bf16) (harg7 : arg7.IsWhole) (arg8 : Memref sig .tc .vmem S7168x256 .bf16) (harg8 : arg8.IsWhole) (arg9 : Memref sig .tc .vmem S7168x256 .bf16) (harg9 : arg9.IsWhole) (arg10 : Memref sig .tc .vmem S7168x256 .bf16) (harg10 : arg10.IsWhole) (arg11 : Memref sig .tc .vmem S2x224x128 .i32) (harg11 : arg11.IsWhole) (arg12 : Memref sig .tc .vmem S2x224x128 .i32) (harg12 : arg12.IsWhole) (hcourse : Course i)
    (x0 : Vec F S1024x7168 .bf16) (x1 : Vec F S7168x128 .i8) (x2 : Vec F S224x256 .i8) (x3 : Vec F S7168x128 .i8) (x4 : Vec F S224x256 .i8) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_gated_gemm i arg1 harg1 arg2 harg2 arg3 harg3 arg4 harg4 arg5 harg5 arg6 harg6 arg7 harg7 arg8 harg8 arg9 harg9 arg10 harg10 arg11 harg11 arg12 harg12) K := by
    intro E K
    simp only [cc0_gated_gemm_eq_skeleton]; unfold cc0_gated_gemm_skel
    simp only [k0_part3_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4
    rcases hcourse with ⟨hc0, hc1, hc2, hc3⟩ | ⟨hc0, hc1, hc2, hc3⟩ | ⟨hc0, hc1, hc2, hc3⟩ | ⟨hc0, hc1, hc2, hc3⟩
    all_goals
      sl_exec (disch := first | sl_exact hc0 | sl_exact hc1 | sl_exact hc2 | sl_exact hc3)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _, _; isplitr; swap; · iexact H5
        ipureintro; rfl
      isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      isplitl [HS4]
      · iexists _, _; isplitr; swap; · iexact HS4
        ipureintro; rfl
      iexists _, _; isplitr; swap; · iexact HS5
      ipureintro; rfl

end Cert.Kernel.Hand

end
-- ==== Proof.KernelFrame.lean ====
/- The frame of the printed kernel over any float values: from any memory with zero counters every run ends, the argument
   arrays are unchanged and the counters are zero again. Nothing is said here of what the output array ends at, so its
   window is forgotten. The text follows the generated frame of a kernel whose outputs nothing reads. -/
module

public import proofs.«01_k».proof.Proof.KernelRun
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of_rdat (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c))⟩) h

/-! ## The pipeline's proof data -/

/-- The output windows this certificate FORGETS (5): nothing reads what the kernel leaves in them, so nothing
    of it is named (Lib/Pipeline/Dat.lean `Dat.toRForget`). -/
def forgets0 : Fin 6 → Bool := fun w => w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d))

set_option maxHeartbeats 4800000 in
/-- The body at any point: the inputs' memrefs hold their blocks (`before0_W`), so the run applies; the invariant hands the
    body its scratch buffers at some contents, with the generator register, and takes them back at some contents; the core
    owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩⟩
  iapply ((kernelRun c (grid0.coords t) _ _ _ _ _ _ _ _ _ _ _ _ _ _ _ _ _ _ _ _ _ _ _ _ (course t) (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of_rdat m ρ (fun c => (dats m 0 c).toRForget forgets0) (A_eq m) (run_main m ρ)

/-- The frame of the printed kernel, over any float values: every run from zero counters ends, with the argument arrays
    unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Hand

end
-- ==== Proof.Decode.lean ====
/- What the kernel's decoding of one 32-row, 128-lane chunk of packed weights computes, entry by entry, over the extended
   reals. A byte of codes holds two four-bit codes; the kernel reads four rows of bytes as one 32-bit word, moves the
   wanted code to the high half of every byte at once, and keeps its sign and its three magnitude bits where the format
   fp8e4m3 has its sign, low exponent and high fraction bits. The scale byte, shifted into the exponent of a bf16, is read
   back from a 32-bit word holding it twice. -/
module

public import proofs.«01_k».proof.Proof.Gen.KernelIdeal.Skeleton
public import Idealize.ShloMosaic.Lib.BitcastFour
public import Idealize.ShloMosaic.Lib.BitcastPair
public import Idealize.ShloMosaic.Lib.Pipeline.Value
public import Idealize.ShloMosaic.Lib.ValueIdx
public import Idealize.ShloMosaic.PureOps.Ideal.Laws
public import Mathlib.Tactic.IntervalCases

@[expose] public section

set_option maxRecDepth 16384

noncomputable section

namespace Cert.KernelIdeal.Hand

open Cert.KernelIdeal Cert.KernelIdeal.Gen Idealize.ShloMosaic Idealize.ShloMosaic.ValueIdx

/-- The four-bit code of a byte at an even (low half) or odd (high half) column. -/
def nib (odd : Bool) (c : BitVec 8) : BitVec 4 := if odd then c.extractLsb' 4 4 else c.extractLsb' 0 4

/-- A four-bit code placed in a byte: its sign at bit 7, its three magnitude bits at bits 2 to 4. -/
def place (n : BitVec 4) : BitVec 8 := ((n.extractLsb' 3 1).setWidth 8 <<< 7) ||| ((n.extractLsb' 0 3).setWidth 8 <<< 2)

/-- One decoded weight: the placed code read as fp8e4m3, times 64, times the scale byte read as a bf16 exponent. -/
def wEntry (odd : Bool) (c s : BitVec 8) : EReal :=
  Ideal.ofBits .fp8e4m3 (place (nib odd c)) * Ideal.ofBits .bf16 0x4280#16 * Ideal.ofBits .bf16 (s.setWidth 16 <<< 7)

/-- The decoded 7168 × 256 block of weights, from its packed codes (two columns to a byte) and its scales (one to 32 rows). -/
def decW (X : S7168x128.Idx → BitVec 8) (S : S224x256.Idx → BitVec 8) : S7168x256.Idx → EReal := fun j =>
  wEntry (decide ((j 1).val % 2 = 1))
    (X (ix2 ⟨(j 0).val, (j 0).isLt⟩ ⟨(j 1).val / 2, by have : (j 1).val < 256 := (j 1).isLt; omega⟩))
    (S (ix2 ⟨(j 0).val / 32, by have : (j 0).val < 7168 := (j 0).isLt; omega⟩ ⟨(j 1).val, (j 1).isLt⟩))

/-- The kernel's vector of lane numbers. -/
theorem lane_eq (h : S8x128.Iotas .tc 32 [1]) : iota .tc S8x128 32 [1] h = fun i => BitVec.ofNat 32 (i 1).val :=
  funext fun i => iota_single_apply .tc S8x128 32 (1 : Fin 2) h i

/-- The lane shift: 4 at even lanes, 0 at odd ones. -/
theorem shift_apply (a : Fin 8) (l : Fin 128) : k0_pay5 (ix2 a l) = if decide (l.val % 2 = 1) then 0#32 else 4#32 := by
  unfold k0_pay5
  rw [lane_eq]
  simp only [select, cmpi, andi, broadcast]
  show Scalar.select (IntOp.cmpi .eq (IntOp.andi (BitVec.ofNat 32 l.val) 1#32) 0#32) 4#32 0#32 = _
  revert l; decide +kernel

/-- The gather index of lane `l`: `idx`, or `idx + 128` where it is negative. -/
def gIdx (idx : IVec S8x128 32) : IVec S8x128 32 :=
  select (cmpi .slt idx (broadcast S8x128 0#32)) (addi idx (broadcast S8x128 128#32)) idx

/-- The first chunk gathers from lane `l / 2`. -/
theorem gIdx_lo (a : Fin 8) (l : Fin 128) : (gIdx k0_pay6 (ix2 a l)).toNat % 128 = l.val / 2 := by
  unfold gIdx k0_pay6
  rw [lane_eq]
  simp only [select, cmpi, addi, shrsi, broadcast]
  show (Scalar.select (IntOp.cmpi .slt (IntOp.shrsi .vector (BitVec.ofNat 32 l.val) 1#32) 0#32)
    (IntOp.addi (IntOp.shrsi .vector (BitVec.ofNat 32 l.val) 1#32) 128#32) (IntOp.shrsi .vector (BitVec.ofNat 32 l.val) 1#32)).toNat % 128 = _
  revert l; decide +kernel

/-- The second chunk gathers from lane `64 + l / 2`. -/
theorem gIdx_hi (a : Fin 8) (l : Fin 128) : (gIdx k0_pay7 (ix2 a l)).toNat % 128 = 64 + l.val / 2 := by
  unfold gIdx k0_pay7
  rw [lane_eq]
  simp only [select, cmpi, addi, shrsi, broadcast]
  show (Scalar.select (IntOp.cmpi .slt (IntOp.addi (IntOp.shrsi .vector (BitVec.ofNat 32 l.val) 1#32) 64#32) 0#32)
    (IntOp.addi (IntOp.addi (IntOp.shrsi .vector (BitVec.ofNat 32 l.val) 1#32) 64#32) 128#32)
    (IntOp.addi (IntOp.shrsi .vector (BitVec.ofNat 32 l.val) 1#32) 64#32)).toNat % 128 = _
  revert l; decide +kernel

/-- The word of four bytes `g`, its codes moved and masked: the word the kernel reads back as four fp8e4m3 values. -/
def moved (g sh : BitVec 32) : BitVec 32 :=
  IntOp.ori (IntOp.andi (IntOp.shli .vector g sh) 2155905152#32)
    (IntOp.andi (IntOp.shrsi .vector (IntOp.shli .vector g sh) 2#32) 471604252#32)

/-- Byte `k` of the moved word is the wanted code of byte `k`, placed. -/
theorem moved_getLsbD (g : BitVec 32) (c : BitVec 8) (odd : Bool) (k : Nat) (hk : k < 4)
    (hc : ∀ q, q < 8 → g.getLsbD (8 * k + q) = c.getLsbD q) (q : Nat) (hq : q < 8) :
    (moved g (if odd then 0#32 else 4#32)).getLsbD (8 * k + q) = (place (nib odd c)).getLsbD q := by
  have h0 := hc 0 (by omega); have h1 := hc 1 (by omega); have h2 := hc 2 (by omega); have h3 := hc 3 (by omega)
  have h4 := hc 4 (by omega); have h5 := hc 5 (by omega); have h6 := hc 6 (by omega); have h7 := hc 7 (by omega)
  cases odd <;> interval_cases k <;> interval_cases q <;>
    simp_all [moved, IntOp.ori, IntOp.andi, IntOp.shli, IntOp.shrsi, place, nib, BitVec.getLsbD_sshiftRight, BitVec.getElem_sshiftRight]

/-- A scale byte in the exponent field of a bf16, twice in a 32-bit word. -/
def dup (s : BitVec 8) : BitVec 32 :=
  IntOp.ori (IntOp.shli .vector (s.setWidth 32) 7#32) (IntOp.shli .vector (IntOp.shli .vector (s.setWidth 32) 7#32) 16#32)

/-- Either half of the doubled word is the bf16 of the scale byte. -/
theorem dup_getLsbD (s : BitVec 8) (k : Nat) (hk : k < 2) (q : Nat) (hq : q < 16) :
    (dup s).getLsbD (16 * k + q) = (s.setWidth 16 <<< 7).getLsbD q := by
  interval_cases k <;> interval_cases q <;>
    simp [dup, IntOp.ori, IntOp.shli]

/-- 32-bit words read as narrower elements, at rank 2: bit `q` of row `a` is bit `(a·v + q) % 32` of word row `(a·v + q) / 32`. -/
theorem narrow_getLsbD {R r n v : Nat} (x : (⟨2, ![r, n]⟩ : Shape).Idx → BitVec 32)
    (h : (⟨2, ![r, n]⟩ : Shape).Bitcasts 32 ⟨2, ![R, n]⟩ v) (a : Fin R) (l : Fin n) (q : Nat) (hq : q < v) (p : Fin r)
    (hp : p.val = (a.val * v + q) / 32) :
    (bitcast ⟨2, ![R, n]⟩ v x h (ix2 a l)).getLsbD q = (x (ix2 p l)).getLsbD ((a.val * v + q) % 32) := by
  rw [bitcast_getLsbD x h _ q hq (by decide)]
  refine congrArg₂ (fun i k => (x i).getLsbD k) ?_ rfl
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- The scales of a chunk, entry by entry: row `b`'s scale of the lane, in all thirty-two rows. -/
theorem laneScale_apply (s : Vec Ideal S1x1x128 .i32) (l : Fin 128) (b : BitVec 8)
    (hb : s (ix3 (0 : Fin 1) (0 : Fin 1) l) = dup b) (r' : Fin 16) :
    bitcastToFloat (F := Ideal) .bf16 (bitcast S16x128 16 (broadcastTo S8x128 (shapeCast S1x128 s shapeCasts_S1x1x128_S1x128)
        broadcasts_S1x128_S8x128) bitcasts_S8x128_w32_S16x128_w16) (ix2 r' l) = Ideal.ofBits .bf16 (b.setWidth 16 <<< 7) := by
  refine congrArg (Ideal.ofBits .bf16) (BitVec.eq_of_getLsbD_eq fun q hq => ?_)
  obtain ⟨r', hr'⟩ := r'
  rw [narrow_getLsbD _ _ ⟨r', hr'⟩ l q hq ⟨r' / 2, by omega⟩ (by show r' / 2 = (r' * 16 + q) / 32; omega),
    show (r' * 16 + q) % 32 = 16 * (r' % 2) + q by omega]
  rw [broadcastTo_apply _ _ _ (ix2 (0 : Fin 1) l) (by intro a; match a with | ⟨0, _⟩ => rfl | ⟨1, _⟩ => rfl)]
  rw [show shapeCast S1x128 s shapeCasts_S1x1x128_S1x128 (ix2 (0 : Fin 1) l) = s (ix3 (0 : Fin 1) (0 : Fin 1) l) from
    (shapeCast_dropUnit_apply ![1, 128] s _ _).trans (congrArg s (by funext a; match a with | ⟨0, _⟩ => rfl | ⟨1, _⟩ => rfl | ⟨2, _⟩ => rfl)), hb]
  exact dup_getLsbD b (r' % 2) (by omega) q hq

/-- Sixteen rows stacked on themselves: where the sixteen all hold `v` at a lane, so do the thirty-two. -/
theorem stack_apply (x : FVec Ideal S16x128 .bf16) (h : Shape.Concatenates [S16x128, S16x128] S32x128 0) (l : Fin 128) (v : EReal)
    (hx : ∀ r' : Fin 16, x (ix2 r' l) = v) (r : Fin 32) :
    concatenate S32x128 0 [⟨S16x128, x⟩, ⟨S16x128, x⟩] h (ix2 r l) = v := by
  by_cases hr : r.val < 16
  · rw [concatenate_pair_apply_left (t := S32x128) (s₁ := S16x128) (s₂ := S16x128) 0 x x h (ix2 r l) rfl (ix2 (⟨r.val, hr⟩ : Fin 16) l)
      (by intro a; match a with | ⟨0, _⟩ => rfl | ⟨1, _⟩ => rfl)]
    exact hx _
  · rw [concatenate_pair_apply_right (t := S32x128) (s₁ := S16x128) (s₂ := S16x128) 0 x x h (ix2 r l) rfl rfl
      (ix2 (⟨r.val - 16, by omega⟩ : Fin 16) l)
      (by intro a; match a with | ⟨0, _⟩ => intro h; exact absurd rfl h | ⟨1, _⟩ => intro _; rfl)
      (by show r.val - 16 + 16 = r.val; omega)]
    exact hx _

/-- A chunk of decoded weights, entry by entry. -/
theorem chunk_apply (idx : IVec S8x128 32) (h : Nat) (hidx : ∀ (a : Fin 8) (l : Fin 128), (gIdx idx (ix2 a l)).toNat % 128 = h + l.val / 2)
    (x : Vec Ideal S32x128 .i8) (s : Vec Ideal S1x1x128 .i32) (r : Fin 32) (l : Fin 128) (hl : h + l.val / 2 < 128) (b : BitVec 8)
    (hb : s (ix3 (0 : Fin 1) (0 : Fin 1) l) = dup b) :
    k0_pay23 (F := Ideal) k0_pay5 idx x s (ix2 r l)
      = wEntry (decide (l.val % 2 = 1)) (x (ix2 r ⟨h + l.val / 2, hl⟩)) b := by
  unfold k0_pay23
  simp only [shapeCast_self, shapeCast_shapeCast]
  unfold wEntry
  refine congrArg₂ (fun a b : EReal => a * b) (congrArg (fun a : EReal => a * _) (congrArg (Ideal.ofBits .fp8e4m3) ?_)) ?_
  · apply BitVec.eq_of_getLsbD_eq
    intro q hq
    obtain ⟨r, hr⟩ := r
    rw [narrow_getLsbD _ _ ⟨r, hr⟩ l q hq ⟨r / 4, by omega⟩ (by show r / 4 = (r * 8 + q) / 32; omega),
      show (r * 8 + q) % 32 = 8 * (r % 4) + q by omega]
    have hw : ∀ w : S8x128.Idx → BitVec 32,
        ori (andi (shli (dynamicGather 1 w (gIdx idx)) k0_pay5) (broadcast S8x128 2155905152#32))
          (andi (shrsi (shli (dynamicGather 1 w (gIdx idx)) k0_pay5) (broadcast S8x128 2#32)) (broadcast S8x128 471604252#32))
          (ix2 ⟨r / 4, by omega⟩ l)
          = moved (w (ix2 ⟨r / 4, by omega⟩ ⟨h + l.val / 2, hl⟩)) (if decide (l.val % 2 = 1) then 0#32 else 4#32) := by
      intro w
      have hg : dynamicGather 1 w (gIdx idx) (ix2 (⟨r / 4, by omega⟩ : Fin 8) l)
          = w (ix2 (⟨r / 4, by omega⟩ : Fin 8) ⟨h + l.val / 2, hl⟩) := by
        unfold dynamicGather
        refine congrArg w (funext fun b => ?_)
        match b with
        | ⟨0, _⟩ => rfl
        | ⟨1, _⟩ => exact Fin.ext (hidx _ _)
      simp only [ori, andi, shrsi, shli, broadcast, hg, shift_apply]
      rfl
    refine (congrArg (fun w : BitVec 32 => w.getLsbD _) (hw _)).trans ?_
    refine moved_getLsbD _ _ _ (r % 4) (by omega) (fun q hq => ?_) q hq
    rw [bitcast_8_32_getLsbD_ix2 _ _ ⟨r / 4, by omega⟩ ⟨h + l.val / 2, hl⟩ (8 * (r % 4) + q) (by omega) ⟨r, hr⟩
      (by show r = 4 * (r / 4) + (8 * (r % 4) + q) / 8; omega)]
    exact congrArg _ (by omega)
  · refine stack_apply _ _ l _ (fun r' => ?_) r
    rw [shapeCast_self]
    exact laneScale_apply s l b hb r'

end Cert.KernelIdeal.Hand
-- ==== Proof.Decoded.lean ====
/- The four decoding loops, each as one statement: after its 224 trips the scratch block it fills holds the decoded
   weights, whatever it held before. A trip fills 32 rows, its two stores a half of the columns each. -/
module

public import proofs.«01_k».proof.Proof.Decode
public import proofs.«01_k».proof.Proof.Gen.KernelIdeal.Loops
public import Idealize.ShloMosaic.Lib.Writes

@[expose] public section

set_option maxRecDepth 16384

noncomputable section

namespace Cert.KernelIdeal.Hand

open Cert.KernelIdeal Cert.KernelIdeal.Gen Idealize.ShloMosaic Idealize.ShloMosaic.ValueIdx

/-- The scales scratch holds every scale doubled: plane `d` the columns from `128·d`. -/
def Doubled (Y : S2x224x128.Idx → BitVec 32) (S : S224x256.Idx → BitVec 8) : Prop :=
  ∀ (d : Fin 2) (b : Fin 224) (l : Fin 128), Y (ix3 d b l) = dup (S (ix2 b ⟨128 * d.val + l.val, by omega⟩))

/-- The chunk a trip stores at rows `32·k …` and columns `128·half …` is the decoded weights there. -/
theorem chunk_piece (half : Nat) (hhalf : half < 2) (idx : IVec S8x128 32)
    (hidx : ∀ (a : Fin 8) (l : Fin 128), (gIdx idx (ix2 a l)).toNat % 128 = 64 * half + l.val / 2)
    (vc : View sig .tc .vmem S7168x128 .i8) (X : vc.ty.Contents (Elt Ideal)) (vs : View sig .tc .vmem S2x224x128 .i32)
    (Y : vs.ty.Contents (Elt Ideal)) (S : S224x256.Idx → BitVec 8) (hS : Doubled (vs.read (Elt Ideal) Y) S) (k : Nat) (hk : k < 224)
    {oc : Fin 2 → Nat} {os : Fin 3 → Nat} {oo : Fin 2 → Nat} (hoc : oc = ![32 * k, 0]) (hos : os = ![half, k, 0]) (hoo : oo = ![32 * k, 128 * half])
    (inbc : ∀ a, oc a + S32x128.size a ≤ S7168x128.size a) (inbs : ∀ a, os a + S1x1x128.size a ≤ S2x224x128.size a)
    (inbo : ∀ a, oo a + S32x128.size a ≤ S7168x256.size a) (x : S32x128.Idx) :
    k0_pay23 (F := Ideal) k0_pay5 idx (View.readAt (Elt Ideal) vc (Rect.unit (s := S7168x128) oc S32x128.size inbc).toLoadRect X)
        (View.readAt (Elt Ideal) vs (Rect.unit (s := S2x224x128) os S1x1x128.size inbs).toLoadRect Y) x
      = decW (vc.read (Elt Ideal) X) S ((Rect.unit (s := S7168x256) oo S32x128.size inbo).emb x) := by
  subst hoc hos hoo
  obtain ⟨r, l, rfl⟩ : ∃ (r : Fin 32) (l : Fin 128), x = ix2 r l := ⟨x 0, x 1, eq_ix2 x⟩
  have hr := r.isLt
  have hl := l.isLt
  rw [chunk_apply idx (64 * half) hidx _ _ r l (by omega) (S (ix2 ⟨k, hk⟩ ⟨128 * half + l.val, by omega⟩))]
  · unfold decW
    have e0 : ((Rect.unit (s := S7168x256) ![32 * k, 128 * half] S32x128.size inbo).emb (ix2 r l) 0).val = 32 * k + r.val := by
      show 32 * k + 1 * r.val = _; omega
    have e1 : ((Rect.unit (s := S7168x256) ![32 * k, 128 * half] S32x128.size inbo).emb (ix2 r l) 1).val = 128 * half + l.val := by
      show 128 * half + 1 * l.val = _; omega
    have h1 : decide (((Rect.unit (s := S7168x256) ![32 * k, 128 * half] S32x128.size inbo).emb (ix2 r l) 1).val % 2 = 1)
        = decide (l.val % 2 = 1) := by
      rw [e1]; exact decide_eq_decide.mpr (by omega)
    rw [h1]
    refine congrArg₂ (fun a b => wEntry _ a b) ?_ (congrArg S ?_)
    · rw [View.readAt_apply]
      refine congrArg (vc.read (Elt Ideal) X) (funext fun a => Fin.ext ?_)
      match a with
      | ⟨0, _⟩ => exact (show 32 * k + 1 * r.val = 32 * k + r.val by omega).trans e0.symm
      | ⟨1, _⟩ =>
        show 0 + 1 * (64 * half + l.val / 2) = _
        refine Eq.trans ?_ (congrArg (· / 2) e1.symm)
        show 0 + 1 * (64 * half + l.val / 2) = (128 * half + l.val) / 2
        omega
    · funext a
      match a with
      | ⟨0, _⟩ => exact Fin.ext ((show k = (32 * k + r.val) / 32 by omega).trans (congrArg (· / 32) e0.symm))
      | ⟨1, _⟩ => exact Fin.ext e1.symm
  · rw [View.readAt_apply, ← hS ⟨half, hhalf⟩ ⟨k, hk⟩ l]
    refine congrArg (vs.read (Elt Ideal) Y) (funext fun a => Fin.ext ?_)
    match a with
    | ⟨0, _⟩ => show half + 1 * 0 = half; omega
    | ⟨1, _⟩ => show k + 1 * 0 = k; omega
    | ⟨2, _⟩ => show 0 + 1 * l.val = l.val; omega

/-- A whole block written 32 rows at a time, a half of the columns per store, every store agreeing with `G`, reads as `G`. -/
theorem filled (v : View sig .tc .vmem S7168x256 .bf16) (f : v.ty.Contents (Elt Ideal)) (G : S7168x256.Idx → EReal) (N : Nat) (hN : N = 224)
    (tr : Fin N → List (View.Piece (Elt Ideal) S7168x256 .bf16)) (pb : Nat → List (View.Piece (Elt Ideal) S7168x256 .bf16))
    (h0 : pb 0 = []) (hs : ∀ k : Fin N, pb (k.val + 1) = tr k ++ pb k.val)
    (ht : ∀ k : Fin N, ∃ (o₀ o₁ : Fin 2 → Nat) (i₀ : ∀ a, o₀ a + S32x128.size a ≤ S7168x256.size a)
      (i₁ : ∀ a, o₁ a + S32x128.size a ≤ S7168x256.size a) (d₀ d₁ : S32x128.Idx → EReal),
      tr k = [⟨Rect.unit (s := S7168x256) o₁ S32x128.size i₁, d₁⟩, ⟨Rect.unit (s := S7168x256) o₀ S32x128.size i₀, d₀⟩]
      ∧ o₀ = ![32 * k.val, 0] ∧ o₁ = ![32 * k.val, 128]
      ∧ (∀ x, d₀ x = G ((Rect.unit (s := S7168x256) o₀ S32x128.size i₀).emb x))
      ∧ (∀ x, d₁ x = G ((Rect.unit (s := S7168x256) o₁ S32x128.size i₁).emb x))) :
    v.read (Elt Ideal) (v.writes (Elt Ideal) f (pb N)) = G := by
  have key : ∀ n, n ≤ N → (∀ p ∈ pb n, ∀ x, p.2 x = G (p.1.emb x)) ∧ ∀ y : S7168x256.Idx, (y 0).val < 32 * n → ∃ p ∈ pb n, y ∈ p.1.set := by
    intro n
    induction n with
    | zero => intro _; rw [h0]; exact ⟨fun p hp => absurd hp List.not_mem_nil, fun y hy => absurd hy (by omega)⟩
    | succ n ih =>
      intro hn
      obtain ⟨ihG, ihC⟩ := ih (by omega)
      obtain ⟨o₀, o₁, i₀, i₁, d₀, d₁, he, ho₀, ho₁, hd₀, hd₁⟩ := ht ⟨n, hn⟩
      have hpb := hs ⟨n, hn⟩
      dsimp only at hpb ho₀ ho₁
      rw [hpb, he]
      refine ⟨fun p hp => ?_, fun y hy => ?_⟩
      · rw [List.mem_append, List.mem_cons, List.mem_singleton] at hp
        rcases hp with (rfl | rfl) | hp
        · exact hd₁
        · exact hd₀
        · exact ihG p hp
      · by_cases hlt : (y 0).val < 32 * n
        · obtain ⟨p, hp, hm⟩ := ihC y hlt
          exact ⟨p, List.mem_append_right _ hp, hm⟩
        · have hy1 : (y 1).val < 256 := (y 1).isLt
          by_cases hc : (y 1).val < 128
          · refine ⟨_, List.mem_append_left _ (List.mem_cons_of_mem _ List.mem_cons_self), ?_⟩
            rw [Rect.mem_set_unit]
            intro a
            rw [ho₀]
            match a with
            | ⟨0, _⟩ => show 32 * n ≤ (y 0).val ∧ (y 0).val < 32 * n + 32; omega
            | ⟨1, _⟩ => show 0 ≤ (y 1).val ∧ (y 1).val < 0 + 128; omega
          · refine ⟨_, List.mem_append_left _ List.mem_cons_self, ?_⟩
            rw [Rect.mem_set_unit]
            intro a
            rw [ho₁]
            match a with
            | ⟨0, _⟩ => show 32 * n ≤ (y 0).val ∧ (y 0).val < 32 * n + 32; omega
            | ⟨1, _⟩ => show 128 ≤ (y 1).val ∧ (y 1).val < 128 + 128; omega
  funext y
  obtain ⟨hG, hC⟩ := key N le_rfl
  exact View.read_writes_apply_of_pieces v f G (pb N) hG y (hC y (by have : (y 0).val < 7168 := (y 0).isLt; omega))

variable (𝒱 : Variants) (c : Dev nD) (bd : Option 𝒱.V) (i : grid0.Coords) (arg1 : Memref sig .tc .vmem S1024x7168 .bf16) (harg1 : arg1.IsWhole) (arg2 : Memref sig .tc .vmem S7168x128 .i8) (harg2 : arg2.IsWhole) (arg3 : Memref sig .tc .vmem S224x256 .i8) (harg3 : arg3.IsWhole) (arg4 : Memref sig .tc .vmem S7168x128 .i8) (harg4 : arg4.IsWhole) (arg5 : Memref sig .tc .vmem S224x256 .i8) (harg5 : arg5.IsWhole) (arg6 : Memref sig .tc .vmem S1024x256 .bf16) (harg6 : arg6.IsWhole) (arg7 : Memref sig .tc .vmem S7168x256 .bf16) (harg7 : arg7.IsWhole) (arg8 : Memref sig .tc .vmem S7168x256 .bf16) (harg8 : arg8.IsWhole) (arg9 : Memref sig .tc .vmem S7168x256 .bf16) (harg9 : arg9.IsWhole) (arg10 : Memref sig .tc .vmem S7168x256 .bf16) (harg10 : arg10.IsWhole) (arg11 : Memref sig .tc .vmem S2x224x128 .i32) (harg11 : arg11.IsWhole) (arg12 : Memref sig .tc .vmem S2x224x128 .i32) (harg12 : arg12.IsWhole)

/-- Loop 1 leaves the decoded weights in scratch 7. -/
theorem decoded1 (k0_h1 : k0_cond1 i = 1#1) (k0_h2 : k0_cond2 i = 1#1) (X : BufTy.Contents (Elt Ideal) arg2.view.ty)
    (Y : BufTy.Contents (Elt Ideal) arg11.view.ty) (S : S224x256.Idx → BitVec 8) (hS : Doubled (arg11.view.read (Elt Ideal) Y) S)
    (f : BufTy.Contents (Elt Ideal) arg7.view.ty) :
    arg7.view.read (Elt Ideal) (arg7.view.writes (Elt Ideal) f
        (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_h1 k0_h2 (iota .tc S8x128 32 [1] iota_S8x128_d1_w32) k0_pay33 k0_pay34 X Y k0_t1_loop.trips))
      = decW (arg2.view.read (Elt Ideal) X) S := by
  refine filled arg7.view f _ k0_t1_loop.trips (by decide +kernel)
    (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 k0_h1 k0_h2 (iota .tc S8x128 32 [1] iota_S8x128_d1_w32) k0_pay33 k0_pay34 X Y)
    (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_h1 k0_h2 (iota .tc S8x128 32 [1] iota_S8x128_d1_w32) k0_pay33 k0_pay34 X Y) rfl
    (fun k => pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 k0_h1 k0_h2 (iota .tc S8x128 32 [1] iota_S8x128_d1_w32) k0_pay33 k0_pay34 X Y k) (fun k => ?_)
  have hk : k.val < 224 := Nat.lt_of_lt_of_le k.isLt k0_t1_abs.2.1
  refine ⟨k0_off3 k, k0_off5 k, k0_off3_inb i k k0_h1 k0_h2, k0_off5_inb i k k0_h1 k0_h2,
    k0_pay23 (F := Ideal) k0_pay5 k0_pay6 (View.readAt (Elt Ideal) arg2.view (Rect.unit (s := S7168x128) (k0_off1 k) S32x128.size (k0_off1_inb i k k0_h1 k0_h2)).toLoadRect X)
      (View.readAt (Elt Ideal) arg11.view (Rect.unit (s := S2x224x128) (k0_off2 k) S1x1x128.size (k0_off2_inb i k k0_h1 k0_h2)).toLoadRect Y),
    k0_pay23 (F := Ideal) k0_pay5 k0_pay7 (View.readAt (Elt Ideal) arg2.view (Rect.unit (s := S7168x128) (k0_off1 k) S32x128.size (k0_off1_inb i k k0_h1 k0_h2)).toLoadRect X)
      (View.readAt (Elt Ideal) arg11.view (Rect.unit (s := S2x224x128) (k0_off4 k) S1x1x128.size (k0_off4_inb i k k0_h1 k0_h2)).toLoadRect Y),
    ?_, k0_off3_eq k, k0_off5_eq k, fun x => ?_, fun x => ?_⟩
  · unfold tripL_k0_t1 trip_k0_t1
    rfl
  · exact chunk_piece 0 (by omega) k0_pay6 (fun a l => (gIdx_lo a l).trans (by omega)) _ X _ Y S hS k.val hk (k0_off1_eq k) (k0_off2_eq k) (k0_off3_eq k) _ _ _ x
  · exact chunk_piece 1 (by omega) k0_pay7 (fun a l => (gIdx_hi a l).trans (by omega)) _ X _ Y S hS k.val hk (k0_off1_eq k) (k0_off4_eq k) (k0_off5_eq k) _ _ _ x

/-- Loop 2 leaves the decoded weights in scratch 8. -/
theorem decoded2 (k0_h1 : k0_cond1 i = 1#1) (k0_h2 : k0_cond2 i = 1#1) (X : BufTy.Contents (Elt Ideal) arg4.view.ty)
    (Y : BufTy.Contents (Elt Ideal) arg12.view.ty) (S : S224x256.Idx → BitVec 8) (hS : Doubled (arg12.view.read (Elt Ideal) Y) S)
    (f : BufTy.Contents (Elt Ideal) arg8.view.ty) :
    arg8.view.read (Elt Ideal) (arg8.view.writes (Elt Ideal) f
        (pb_k0_t2 (F := Ideal) 𝒱 c bd i arg1 harg1 arg2 harg2 arg3 harg3 arg4 harg4 arg5 harg5 arg6 harg6 arg7 harg7 arg8 harg8 arg9 harg9 arg10 harg10 arg11 harg11 arg12 harg12 k0_h1 k0_h2 X Y k0_t2_loop.trips))
      = decW (arg4.view.read (Elt Ideal) X) S := by
  refine filled arg8.view f _ k0_t2_loop.trips (by decide +kernel)
    (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 k0_h1 k0_h2 X Y)
    (pb_k0_t2 (F := Ideal) 𝒱 c bd i arg1 harg1 arg2 harg2 arg3 harg3 arg4 harg4 arg5 harg5 arg6 harg6 arg7 harg7 arg8 harg8 arg9 harg9 arg10 harg10 arg11 harg11 arg12 harg12 k0_h1 k0_h2 X Y) rfl
    (fun k => pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 k0_h1 k0_h2 X Y k) (fun k => ?_)
  have hk : k.val < 224 := Nat.lt_of_lt_of_le k.isLt k0_t2_abs.2.1
  refine ⟨k0_off8 k, k0_off10 k, k0_off8_inb i k k0_h1 k0_h2, k0_off10_inb i k k0_h1 k0_h2,
    k0_pay23 (F := Ideal) k0_pay5 k0_pay6 (View.readAt (Elt Ideal) arg4.view (Rect.unit (s := S7168x128) (k0_off6 k) S32x128.size (k0_off6_inb i k k0_h1 k0_h2)).toLoadRect X)
      (View.readAt (Elt Ideal) arg12.view (Rect.unit (s := S2x224x128) (k0_off7 k) S1x1x128.size (k0_off7_inb i k k0_h1 k0_h2)).toLoadRect Y),
    k0_pay23 (F := Ideal) k0_pay5 k0_pay7 (View.readAt (Elt Ideal) arg4.view (Rect.unit (s := S7168x128) (k0_off6 k) S32x128.size (k0_off6_inb i k k0_h1 k0_h2)).toLoadRect X)
      (View.readAt (Elt Ideal) arg12.view (Rect.unit (s := S2x224x128) (k0_off9 k) S1x1x128.size (k0_off9_inb i k k0_h1 k0_h2)).toLoadRect Y),
    ?_, k0_off8_eq k, k0_off10_eq k, fun x => ?_, fun x => ?_⟩
  · unfold tripL_k0_t2 trip_k0_t2
    rfl
  · exact chunk_piece 0 (by omega) k0_pay6 (fun a l => (gIdx_lo a l).trans (by omega)) _ X _ Y S hS k.val hk (k0_off6_eq k) (k0_off7_eq k) (k0_off8_eq k) _ _ _ x
  · exact chunk_piece 1 (by omega) k0_pay7 (fun a l => (gIdx_hi a l).trans (by omega)) _ X _ Y S hS k.val hk (k0_off6_eq k) (k0_off9_eq k) (k0_off10_eq k) _ _ _ x

/-- Loop 3 leaves the decoded weights in scratch 9. -/
theorem decoded3 (k0_h4 : k0_cond4 i = 1#1) (k0_h5 : k0_cond5 i = 1#1) (X : BufTy.Contents (Elt Ideal) arg2.view.ty)
    (Y : BufTy.Contents (Elt Ideal) arg11.view.ty) (S : S224x256.Idx → BitVec 8) (hS : Doubled (arg11.view.read (Elt Ideal) Y) S)
    (f : BufTy.Contents (Elt Ideal) arg9.view.ty) :
    arg9.view.read (Elt Ideal) (arg9.view.writes (Elt Ideal) f
        (pb_k0_t3 (F := Ideal) 𝒱 c bd i arg1 harg1 arg2 harg2 arg3 harg3 arg4 harg4 arg5 harg5 arg6 harg6 arg7 harg7 arg8 harg8 arg9 harg9 arg10 harg10 arg11 harg11 arg12 harg12 k0_h4 k0_h5 (iota .tc S8x128 32 [1] iota_S8x128_d1_w32) k0_pay49 k0_pay50 X Y k0_t3_loop.trips))
      = decW (arg2.view.read (Elt Ideal) X) S := by
  refine filled arg9.view f _ k0_t3_loop.trips (by decide +kernel)
    (tripL_k0_t3 (F := Ideal) 𝒱 c bd i arg1 harg1 arg2 harg2 arg3 harg3 arg4 harg4 arg5 harg5 arg6 harg6 arg7 harg7 arg8 harg8 arg9 harg9 arg10 harg10 arg11 harg11 arg12 harg12 k0_h4 k0_h5 (iota .tc S8x128 32 [1] iota_S8x128_d1_w32) k0_pay49 k0_pay50 X Y)
    (pb_k0_t3 (F := Ideal) 𝒱 c bd i arg1 harg1 arg2 harg2 arg3 harg3 arg4 harg4 arg5 harg5 arg6 harg6 arg7 harg7 arg8 harg8 arg9 harg9 arg10 harg10 arg11 harg11 arg12 harg12 k0_h4 k0_h5 (iota .tc S8x128 32 [1] iota_S8x128_d1_w32) k0_pay49 k0_pay50 X Y) rfl
    (fun k => pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 k0_h4 k0_h5 (iota .tc S8x128 32 [1] iota_S8x128_d1_w32) k0_pay49 k0_pay50 X Y k) (fun k => ?_)
  have hk : k.val < 224 := Nat.lt_of_lt_of_le k.isLt k0_t3_abs.2.1
  refine ⟨k0_off13 k, k0_off15 k, k0_off13_inb i k k0_h4 k0_h5, k0_off15_inb i k k0_h4 k0_h5,
    k0_pay23 (F := Ideal) k0_pay5 k0_pay6 (View.readAt (Elt Ideal) arg2.view (Rect.unit (s := S7168x128) (k0_off11 k) S32x128.size (k0_off11_inb i k k0_h4 k0_h5)).toLoadRect X)
      (View.readAt (Elt Ideal) arg11.view (Rect.unit (s := S2x224x128) (k0_off12 k) S1x1x128.size (k0_off12_inb i k k0_h4 k0_h5)).toLoadRect Y),
    k0_pay23 (F := Ideal) k0_pay5 k0_pay7 (View.readAt (Elt Ideal) arg2.view (Rect.unit (s := S7168x128) (k0_off11 k) S32x128.size (k0_off11_inb i k k0_h4 k0_h5)).toLoadRect X)
      (View.readAt (Elt Ideal) arg11.view (Rect.unit (s := S2x224x128) (k0_off14 k) S1x1x128.size (k0_off14_inb i k k0_h4 k0_h5)).toLoadRect Y),
    ?_, k0_off13_eq k, k0_off15_eq k, fun x => ?_, fun x => ?_⟩
  · unfold tripL_k0_t3 trip_k0_t3
    rfl
  · exact chunk_piece 0 (by omega) k0_pay6 (fun a l => (gIdx_lo a l).trans (by omega)) _ X _ Y S hS k.val hk (k0_off11_eq k) (k0_off12_eq k) (k0_off13_eq k) _ _ _ x
  · exact chunk_piece 1 (by omega) k0_pay7 (fun a l => (gIdx_hi a l).trans (by omega)) _ X _ Y S hS k.val hk (k0_off11_eq k) (k0_off14_eq k) (k0_off15_eq k) _ _ _ x

/-- Loop 4 leaves the decoded weights in scratch 10. -/
theorem decoded4 (k0_h4 : k0_cond4 i = 1#1) (k0_h5 : k0_cond5 i = 1#1) (X : BufTy.Contents (Elt Ideal) arg4.view.ty)
    (Y : BufTy.Contents (Elt Ideal) arg12.view.ty) (S : S224x256.Idx → BitVec 8) (hS : Doubled (arg12.view.read (Elt Ideal) Y) S)
    (f : BufTy.Contents (Elt Ideal) arg10.view.ty) :
    arg10.view.read (Elt Ideal) (arg10.view.writes (Elt Ideal) f
        (pb_k0_t4 (F := Ideal) 𝒱 c bd i arg1 harg1 arg2 harg2 arg3 harg3 arg4 harg4 arg5 harg5 arg6 harg6 arg7 harg7 arg8 harg8 arg9 harg9 arg10 harg10 arg11 harg11 arg12 harg12 k0_h4 k0_h5 X Y k0_t4_loop.trips))
      = decW (arg4.view.read (Elt Ideal) X) S := by
  refine filled arg10.view f _ k0_t4_loop.trips (by decide +kernel)
    (tripL_k0_t4 (F := Ideal) 𝒱 c bd i arg1 harg1 arg2 harg2 arg3 harg3 arg4 harg4 arg5 harg5 arg6 harg6 arg7 harg7 arg8 harg8 arg9 harg9 arg10 harg10 arg11 harg11 arg12 harg12 k0_h4 k0_h5 X Y)
    (pb_k0_t4 (F := Ideal) 𝒱 c bd i arg1 harg1 arg2 harg2 arg3 harg3 arg4 harg4 arg5 harg5 arg6 harg6 arg7 harg7 arg8 harg8 arg9 harg9 arg10 harg10 arg11 harg11 arg12 harg12 k0_h4 k0_h5 X Y) rfl
    (fun k => pb_k0_t4_succ (F := Ideal) 𝒱 c bd i arg1 harg1 arg2 harg2 arg3 harg3 arg4 harg4 arg5 harg5 arg6 harg6 arg7 harg7 arg8 harg8 arg9 harg9 arg10 harg10 arg11 harg11 arg12 harg12 k0_h4 k0_h5 X Y k) (fun k => ?_)
  have hk : k.val < 224 := Nat.lt_of_lt_of_le k.isLt k0_t4_abs.2.1
  refine ⟨k0_off18 k, k0_off20 k, k0_off18_inb i k k0_h4 k0_h5, k0_off20_inb i k k0_h4 k0_h5,
    k0_pay23 (F := Ideal) k0_pay5 k0_pay6 (View.readAt (Elt Ideal) arg4.view (Rect.unit (s := S7168x128) (k0_off16 k) S32x128.size (k0_off16_inb i k k0_h4 k0_h5)).toLoadRect X)
      (View.readAt (Elt Ideal) arg12.view (Rect.unit (s := S2x224x128) (k0_off17 k) S1x1x128.size (k0_off17_inb i k k0_h4 k0_h5)).toLoadRect Y),
    k0_pay23 (F := Ideal) k0_pay5 k0_pay7 (View.readAt (Elt Ideal) arg4.view (Rect.unit (s := S7168x128) (k0_off16 k) S32x128.size (k0_off16_inb i k k0_h4 k0_h5)).toLoadRect X)
      (View.readAt (Elt Ideal) arg12.view (Rect.unit (s := S2x224x128) (k0_off19 k) S1x1x128.size (k0_off19_inb i k k0_h4 k0_h5)).toLoadRect Y),
    ?_, k0_off18_eq k, k0_off20_eq k, fun x => ?_, fun x => ?_⟩
  · unfold tripL_k0_t4 trip_k0_t4
    rfl
  · exact chunk_piece 0 (by omega) k0_pay6 (fun a l => (gIdx_lo a l).trans (by omega)) _ X _ Y S hS k.val hk (k0_off16_eq k) (k0_off17_eq k) (k0_off18_eq k) _ _ _ x
  · exact chunk_piece 1 (by omega) k0_pay7 (fun a l => (gIdx_hi a l).trans (by omega)) _ X _ Y S hS k.val hk (k0_off16_eq k) (k0_off19_eq k) (k0_off20_eq k) _ _ _ x

end Cert.KernelIdeal.Hand
-- ==== Proof.RunBase.lean ====
/- What the body's runs share: its branch conditions in closed form over the grid, the memrefs it works on, the scales
   scratch after its two stores, and the product the output block is given. -/
module

public import proofs.«01_k».proof.Proof.Decoded
public import proofs.«01_k».proof.Proof.Gen.KernelIdeal.Frame
public import proofs.«01_k».proof.Proof.Gen.KernelIdeal.Launch
public import Idealize.ShloMosaic.Lib.VecWindow
public import Idealize.ShloMosaic.Lib.Pipeline.TableIdle

@[expose] public section

set_option maxRecDepth 16384

noncomputable section

namespace Cert.KernelIdeal.Hand

open Cert.KernelIdeal Cert.KernelIdeal.Gen Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! ## The body's branch conditions -/

/-- The condition of the body's `scf.if` 0 (`k0_h1`), from the grid coordinates. -/
abbrev cond0_0 (i : grid0.Coords) : Prop := k0_cond1 i = 1#1
/-- It holds at the points ≡ 0 (mod 2) — decided over the grid. -/
theorem hcond0_0 : ∀ t : Fin cfg0.N, cond0_0 (grid0.coords t) ↔ t.val % 2 = 0 :=
  (by decide +kernel : ∀ t : Fin grid0.N, cond0_0 (grid0.coords t) ↔ t.val % 2 = 0)

/-- The condition of the body's `scf.if` 1 (`k0_h2`), from the grid coordinates. -/
abbrev cond0_1 (i : grid0.Coords) : Prop := k0_cond2 i = 1#1
/-- It holds at the points before point 432 — decided over the grid. -/
theorem hcond0_1 : ∀ t : Fin cfg0.N, cond0_1 (grid0.coords t) ↔ t.val < 432 :=
  (by decide +kernel : ∀ t : Fin grid0.N, cond0_1 (grid0.coords t) ↔ t.val < 432)

/-- The condition of the body's `scf.if` 2 (`k0_h3`), from the grid coordinates. -/
abbrev cond0_2 (i : grid0.Coords) : Prop := k0_cond3 i = 1#1
/-- It holds at the points from point 1 on — decided over the grid. -/
theorem hcond0_2 : ∀ t : Fin cfg0.N, cond0_2 (grid0.coords t) ↔ 1 ≤ t.val :=
  (by decide +kernel : ∀ t : Fin grid0.N, cond0_2 (grid0.coords t) ↔ 1 ≤ t.val)

/-- The condition of the body's `scf.if` 3 (`k0_h4`), from the grid coordinates. -/
abbrev cond0_3 (i : grid0.Coords) : Prop := k0_cond4 i = 1#1
/-- It holds at the points ≡ 1 (mod 2) — decided over the grid. -/
theorem hcond0_3 : ∀ t : Fin cfg0.N, cond0_3 (grid0.coords t) ↔ t.val % 2 = 1 :=
  (by decide +kernel : ∀ t : Fin grid0.N, cond0_3 (grid0.coords t) ↔ t.val % 2 = 1)

/-- The condition of the body's `scf.if` 4 (`k0_h5`), from the grid coordinates. -/
abbrev cond0_4 (i : grid0.Coords) : Prop := k0_cond5 i = 1#1
/-- It holds at the points before point 432 — decided over the grid. -/
theorem hcond0_4 : ∀ t : Fin cfg0.N, cond0_4 (grid0.coords t) ↔ t.val < 432 :=
  (by decide +kernel : ∀ t : Fin grid0.N, cond0_4 (grid0.coords t) ↔ t.val < 432)

/-- The condition of the body's `scf.if` 5 (`k0_h6`), from the grid coordinates. -/
abbrev cond0_5 (i : grid0.Coords) : Prop := k0_cond6 i = 1#1
/-- It holds at the points from point 1 on — decided over the grid. -/
theorem hcond0_5 : ∀ t : Fin cfg0.N, cond0_5 (grid0.coords t) ↔ 1 ≤ t.val :=
  (by decide +kernel : ∀ t : Fin grid0.N, cond0_5 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl

/-- Each window's current staging memref at point `t`, spelled as the pipeline passes it (`bodyAt0`), and its wholeness. -/
abbrev ms0_0 (t : Fin cfg0.N) : Memref sig .tc .vmem S1024x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S7168x128 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S224x256 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S7168x128 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S224x256 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S7168x256 .bf16 := Memref.whole cc0_scratch0
abbrev scM0_1 : Memref sig .tc .vmem S7168x256 .bf16 := Memref.whole cc0_scratch1
abbrev scM0_2 : Memref sig .tc .vmem S7168x256 .bf16 := Memref.whole cc0_scratch2
abbrev scM0_3 : Memref sig .tc .vmem S7168x256 .bf16 := Memref.whole cc0_scratch3
abbrev scM0_4 : Memref sig .tc .vmem S2x224x128 .i32 := Memref.whole cc0_scratch4
abbrev scM0_5 : Memref sig .tc .vmem S2x224x128 .i32 := Memref.whole cc0_scratch5

/-- The invariant before the first point, with the scratch blocks as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- One output block: the gated product of a block of rows with the two decoded blocks of weights. -/
def gemm (x0 : Vec Ideal S1024x7168 .bf16) (w0 w1 : Vec Ideal S7168x256 .bf16) : Vec Ideal S1024x256 .bf16 :=
  k0_pay9 (F := Ideal) x0 w0 x0 w1

/-- The scales scratch after its two stores holds every scale doubled. -/
theorem doubled (v : View sig .tc .vmem S2x224x128 .i32) (f : v.ty.Contents (Elt Ideal)) (V : S224x256.Idx → BitVec 8)
    (i₀ : ∀ a, (![0, 0, 0] : Fin 3 → Nat) a + S1x224x128.size a ≤ S2x224x128.size a)
    (i₁ : ∀ a, (![1, 0, 0] : Fin 3 → Nat) a + S1x224x128.size a ≤ S2x224x128.size a) :
    Doubled (v.read (Elt Ideal) (v.writes (Elt Ideal) f
      [⟨Rect.unit (s := S2x224x128) ![1, 0, 0] S1x224x128.size i₁, k0_pay29 (F := Ideal) V⟩,
        ⟨Rect.unit (s := S2x224x128) ![0, 0, 0] S1x224x128.size i₀, k0_pay28 (F := Ideal) V⟩])) V := by
  intro d b l
  have hd := d.isLt
  have hb := b.isLt
  have hl := l.isLt
  have key := View.read_writes_apply_of_pieces v f
    (fun y : S2x224x128.Idx => dup (V (ix2 ⟨(y 1).val, (y 1).isLt⟩ ⟨128 * (y 0).val + (y 2).val,
      by have h0 : (y 0).val < 2 := (y 0).isLt; have h2 : (y 2).val < 128 := (y 2).isLt; omega⟩)))
    [⟨Rect.unit (s := S2x224x128) ![1, 0, 0] S1x224x128.size i₁, k0_pay29 (F := Ideal) V⟩,
      ⟨Rect.unit (s := S2x224x128) ![0, 0, 0] S1x224x128.size i₀, k0_pay28 (F := Ideal) V⟩]
    (fun p hp => ?_) (ix3 d b l) ?_
  · exact key
  · rw [List.mem_cons, List.mem_singleton] at hp
    rcases hp with rfl | rfl
    · intro x
      show k0_pay29 (F := Ideal) V x = _
      unfold k0_pay29
      dsimp only
      rw [shapeCast_addUnit_apply]
      refine congrArg dup (congrArg V (funext fun a => Fin.ext ?_))
      have h0 : (x 0).val = 0 := by have : (x 0).val < 1 := (x 0).isLt; omega
      match a with
      | ⟨0, _⟩ => show 0 + (x 1).val = 0 + 1 * (x 1).val; omega
      | ⟨1, _⟩ => show 128 + (x 2).val = 128 * (1 + 1 * (x 0).val) + (0 + 1 * (x 2).val); omega
    · intro x
      show k0_pay28 (F := Ideal) V x = _
      unfold k0_pay28
      dsimp only
      rw [shapeCast_addUnit_apply]
      refine congrArg dup (congrArg V (funext fun a => Fin.ext ?_))
      have h0 : (x 0).val = 0 := by have : (x 0).val < 1 := (x 0).isLt; omega
      match a with
      | ⟨0, _⟩ => show 0 + (x 1).val = 0 + 1 * (x 1).val; omega
      | ⟨1, _⟩ => show 0 + (x 2).val = 128 * (0 + 1 * (x 0).val) + (0 + 1 * (x 2).val); omega
  · by_cases hz : d.val = 0
    · refine ⟨_, List.mem_cons_of_mem _ List.mem_cons_self, ?_⟩
      rw [Rect.mem_set_unit]
      intro a
      match a with
      | ⟨0, _⟩ => show 0 ≤ d.val ∧ d.val < 0 + 1; omega
      | ⟨1, _⟩ => show 0 ≤ b.val ∧ b.val < 0 + 224; omega
      | ⟨2, _⟩ => show 0 ≤ l.val ∧ l.val < 0 + 128; omega
    · refine ⟨_, List.mem_cons_self, ?_⟩
      rw [Rect.mem_set_unit]
      intro a
      match a with
      | ⟨0, _⟩ => show 1 ≤ d.val ∧ d.val < 1 + 1; omega
      | ⟨1, _⟩ => show 0 ≤ b.val ∧ b.val < 0 + 224; omega
      | ⟨2, _⟩ => show 0 ≤ l.val ∧ l.val < 0 + 128; omega

/-- The scales scratch after the two stores of a loaded block of scales. -/
theorem doubled_unread {m : Memref sig .tc .vmem S224x256 .i8} (hm : m.IsWhole) (v : View sig .tc .vmem S2x224x128 .i32)
    (f : v.ty.Contents (Elt Ideal)) (V : S224x256.Idx → BitVec 8) (L : List (View.Piece (Elt Ideal) S2x224x128 .i32))
    (inb : ∀ a, (![0, 0] : Fin 2 → Nat) a + S224x256.size a ≤ S224x256.size a)
    (i₀ : ∀ a, (![0, 0, 0] : Fin 3 → Nat) a + S1x224x128.size a ≤ S2x224x128.size a)
    (i₁ : ∀ a, (![1, 0, 0] : Fin 3 → Nat) a + S1x224x128.size a ≤ S2x224x128.size a)
    (hL : L = [⟨Rect.unit (s := S2x224x128) ![1, 0, 0] S1x224x128.size i₁,
        k0_pay29 (F := Ideal) (View.readAt (Elt Ideal) m.view (Rect.unit (s := S224x256) ![0, 0] S224x256.size inb).toLoadRect (hm.unread V))⟩,
      ⟨Rect.unit (s := S2x224x128) ![0, 0, 0] S1x224x128.size i₀,
        k0_pay28 (F := Ideal) (View.readAt (Elt Ideal) m.view (Rect.unit (s := S224x256) ![0, 0] S224x256.size inb).toLoadRect (hm.unread V))⟩]) :
    Doubled (v.read (Elt Ideal) (v.writes (Elt Ideal) f L)) V := by
  rw [View.readAt_full, hm.read_unread] at hL
  rw [hL]
  exact doubled v f V i₀ i₁

/-- The output block after its store: the product of what the three loads read. -/
theorem out_read {m₁ : Memref sig .tc .vmem S1024x7168 .bf16} (h₁ : m₁.IsWhole) {m₂ m₃ : Memref sig .tc .vmem S7168x256 .bf16} (h₂ : m₂.IsWhole)
    (h₃ : m₃.IsWhole) (v : View sig .tc .vmem S1024x256 .bf16) (f : v.ty.Contents (Elt Ideal)) (x0 : Vec Ideal S1024x7168 .bf16)
    (w0 w1 : Vec Ideal S7168x256 .bf16) (L : List (View.Piece (Elt Ideal) S1024x256 .bf16))
    (i₁ : ∀ a, (![0, 0] : Fin 2 → Nat) a + S1024x7168.size a ≤ S1024x7168.size a)
    (i₂ : ∀ a, (![0, 0] : Fin 2 → Nat) a + S7168x256.size a ≤ S7168x256.size a)
    (i₃ : ∀ a, (![0, 0] : Fin 2 → Nat) a + S1024x256.size a ≤ S1024x256.size a)
    (hL : L = [⟨Rect.unit (s := S1024x256) ![0, 0] S1024x256.size i₃,
        k0_pay9 (F := Ideal) (View.readAt (Elt Ideal) m₁.view (Rect.unit (s := S1024x7168) ![0, 0] S1024x7168.size i₁).toLoadRect (h₁.unread x0))
          (View.readAt (Elt Ideal) m₂.view (Rect.unit (s := S7168x256) ![0, 0] S7168x256.size i₂).toLoadRect (h₂.unread w0))
          (View.readAt (Elt Ideal) m₁.view (Rect.unit (s := S1024x7168) ![0, 0] S1024x7168.size i₁).toLoadRect (h₁.unread x0))
          (View.readAt (Elt Ideal) m₃.view (Rect.unit (s := S7168x256) ![0, 0] S7168x256.size i₂).toLoadRect (h₃.unread w1))⟩]) :
    v.read (Elt Ideal) (v.writes (Elt Ideal) f L) = gemm x0 w0 w1 := by
  rw [View.readAt_full, View.readAt_full, View.readAt_full, h₁.read_unread, h₂.read_unread, h₃.read_unread] at hL
  rw [hL, View.read_writes_full]
  rfl

end Cert.KernelIdeal.Hand
-- ==== Proof.RunA.lean ====
/- The first point: the weights' first column block is decoded, nothing is multiplied and the output block is left as it was. -/
module

public import proofs.«01_k».proof.Proof.RunBase

@[expose] public section

set_option maxRecDepth 16384

noncomputable section

namespace Cert.KernelIdeal.Hand

open Cert.KernelIdeal Cert.KernelIdeal.Gen Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- (the run's proof term is large: checking it walks past the default budget)
set_option maxHeartbeats 1000000 in
/-- The first point: the weights' first column block is decoded, nothing is multiplied and the output block is left as it was. -/
theorem runA (c : Dev nD) (i : grid0.Coords) (arg1 : Memref sig .tc .vmem S1024x7168 .bf16) (harg1 : arg1.IsWhole) (arg2 : Memref sig .tc .vmem S7168x128 .i8) (harg2 : arg2.IsWhole) (arg3 : Memref sig .tc .vmem S224x256 .i8) (harg3 : arg3.IsWhole) (arg4 : Memref sig .tc .vmem S7168x128 .i8) (harg4 : arg4.IsWhole) (arg5 : Memref sig .tc .vmem S224x256 .i8) (harg5 : arg5.IsWhole) (arg6 : Memref sig .tc .vmem S1024x256 .bf16) (harg6 : arg6.IsWhole) (arg7 : Memref sig .tc .vmem S7168x256 .bf16) (harg7 : arg7.IsWhole) (arg8 : Memref sig .tc .vmem S7168x256 .bf16) (harg8 : arg8.IsWhole) (arg9 : Memref sig .tc .vmem S7168x256 .bf16) (harg9 : arg9.IsWhole) (arg10 : Memref sig .tc .vmem S7168x256 .bf16) (harg10 : arg10.IsWhole) (arg11 : Memref sig .tc .vmem S2x224x128 .i32) (harg11 : arg11.IsWhole) (arg12 : Memref sig .tc .vmem S2x224x128 .i32) (harg12 : arg12.IsWhole) (hc0 : cond0_0 i) (hc1 : cond0_1 i) (hc2 : ¬cond0_2 i) (hc3 : ¬cond0_3 i)
    (x0 : Vec Ideal S1024x7168 .bf16) (x1 : Vec Ideal S7168x128 .i8) (x2 : Vec Ideal S224x256 .i8) (x3 : Vec Ideal S7168x128 .i8) (x4 : Vec Ideal S224x256 .i8) (d5 : Vec Ideal S1024x256 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare d5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare d5 ∗ owns (c : Thread nD τ) arg7 fullShare (decW x1 x2) ∗ owns (c : Thread nD τ) arg8 fullShare (decW x3 x4) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := Ideal)) Variants.none c none) E (cc0_gated_gemm i arg1 harg1 arg2 harg2 arg3 harg3 arg4 harg4 arg5 harg5 arg6 harg6 arg7 harg7 arg8 harg8 arg9 harg9 arg10 harg10 arg11 harg11 arg12 harg12) K := by
    intro E K
    simp only [cc0_gated_gemm_eq_skeleton]; unfold cc0_gated_gemm_skel
    simp only [k0_part3_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6
    sl_exec (disch := first | sl_exact hc0 | sl_exact hc1 | sl_exact hc2 | sl_exact hc3)
    sl_step
    iapply Hk
    isplitl [H1]
    · iexists _; isplitr; swap; · iexact H1
      ipureintro; exact harg1.read_unread _
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro
      exact (decoded1 Variants.none c none i arg1 harg1 arg2 harg2 arg3 harg3 arg4 harg4 arg5 harg5 arg6 harg6 arg7 harg7 arg8 harg8 arg9 harg9 arg10 harg10 arg11 harg11 arg12 harg12 hc0 hc1 _ _ x2 (doubled_unread harg3 arg11.view _ x2 _ inb_S224x256_S224x256_0_0 inb_S2x224x128_S1x224x128_0_0_0 inb_S2x224x128_S1x224x128_1_0_0 rfl) _).trans (congrArg (fun X => decW X x2) (harg2.read_unread x1))
    isplitl [H8]
    · iexists _; isplitr; swap; · iexact H8
      ipureintro
      exact (decoded2 Variants.none c none i arg1 harg1 arg2 harg2 arg3 harg3 arg4 harg4 arg5 harg5 arg6 harg6 arg7 harg7 arg8 harg8 arg9 harg9 arg10 harg10 arg11 harg11 arg12 harg12 hc0 hc1 _ _ x4 (doubled_unread harg5 arg12.view _ x4 _ inb_S224x256_S224x256_0_0 inb_S2x224x128_S1x224x128_0_0_0 inb_S2x224x128_S1x224x128_1_0_0 rfl) _).trans (congrArg (fun X => decW X x4) (harg4.read_unread x3))
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact H12
    ipureintro; rfl

end Cert.KernelIdeal.Hand
-- ==== Proof.RunB.lean ====
/- An odd point: the next column block is decoded into the odd scratch pair, the even pair's is multiplied. -/
module

public import proofs.«01_k».proof.Proof.RunA

@[expose] public section

set_option maxRecDepth 16384

noncomputable section

namespace Cert.KernelIdeal.Hand

open Cert.KernelIdeal Cert.KernelIdeal.Gen Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- (the run's proof term is large: checking it walks past the default budget)
set_option maxHeartbeats 1000000 in
/-- An odd point: the next column block is decoded into the odd scratch pair, the even pair's is multiplied. -/
theorem runB (c : Dev nD) (i : grid0.Coords) (arg1 : Memref sig .tc .vmem S1024x7168 .bf16) (harg1 : arg1.IsWhole) (arg2 : Memref sig .tc .vmem S7168x128 .i8) (harg2 : arg2.IsWhole) (arg3 : Memref sig .tc .vmem S224x256 .i8) (harg3 : arg3.IsWhole) (arg4 : Memref sig .tc .vmem S7168x128 .i8) (harg4 : arg4.IsWhole) (arg5 : Memref sig .tc .vmem S224x256 .i8) (harg5 : arg5.IsWhole) (arg6 : Memref sig .tc .vmem S1024x256 .bf16) (harg6 : arg6.IsWhole) (arg7 : Memref sig .tc .vmem S7168x256 .bf16) (harg7 : arg7.IsWhole) (arg8 : Memref sig .tc .vmem S7168x256 .bf16) (harg8 : arg8.IsWhole) (arg9 : Memref sig .tc .vmem S7168x256 .bf16) (harg9 : arg9.IsWhole) (arg10 : Memref sig .tc .vmem S7168x256 .bf16) (harg10 : arg10.IsWhole) (arg11 : Memref sig .tc .vmem S2x224x128 .i32) (harg11 : arg11.IsWhole) (arg12 : Memref sig .tc .vmem S2x224x128 .i32) (harg12 : arg12.IsWhole) (hc0 : ¬cond0_0 i) (hc3 : cond0_3 i) (hc4 : cond0_4 i) (hc5 : cond0_5 i)
    (x0 : Vec Ideal S1024x7168 .bf16) (x1 : Vec Ideal S7168x128 .i8) (x2 : Vec Ideal S224x256 .i8) (x3 : Vec Ideal S7168x128 .i8) (x4 : Vec Ideal S224x256 .i8) (w0 w1 : Vec Ideal S7168x256 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare w0 ∗ owns (c : Thread nD τ) arg8 fullShare w1 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (gemm x0 w0 w1) ∗ (∃ d, owns (c : Thread nD τ) arg7 fullShare d) ∗ (∃ d, owns (c : Thread nD τ) arg8 fullShare d) ∗ owns (c : Thread nD τ) arg9 fullShare (decW x1 x2) ∗ owns (c : Thread nD τ) arg10 fullShare (decW x3 x4) ∗ (∃ d, owns (c : Thread nD τ) arg11 fullShare d) ∗ (∃ d, owns (c : Thread nD τ) arg12 fullShare d)) -∗ K ⟨⟩))
          ⊢ wp frame (wpE (defs₀ (F := Ideal)) Variants.none c none) E (cc0_gated_gemm i arg1 harg1 arg2 harg2 arg3 harg3 arg4 harg4 arg5 harg5 arg6 harg6 arg7 harg7 arg8 harg8 arg9 harg9 arg10 harg10 arg11 harg11 arg12 harg12) K := by
    intro E K
    simp only [cc0_gated_gemm_eq_skeleton]; unfold cc0_gated_gemm_skel
    simp only [k0_part6_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
    obtain rfl := harg1.eq_unread hf1; obtain rfl := harg2.eq_unread hf2; obtain rfl := harg3.eq_unread hf3; obtain rfl := harg4.eq_unread hf4; obtain rfl := harg5.eq_unread hf5; obtain rfl := harg7.eq_unread hf7; obtain rfl := harg8.eq_unread hf8
    sl_exec (disch := first | sl_exact hc0 | sl_exact hc3 | sl_exact hc4 | sl_exact hc5)
    sl_step
    iapply Hk
    isplitl [H1]
    · iexists _; isplitr; swap; · iexact H1
      ipureintro; exact harg1.read_unread _
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro
      exact out_read harg1 harg7 harg8 arg6.view _ x0 w0 w1 _ inb_S1024x7168_S1024x7168_0_0 inb_S7168x256_S7168x256_0_0 inb_S1024x256_S1024x256_0_0 rfl
    isplitl [H7]
    · iexists _, _; isplitr; swap; · iexact H7
      ipureintro; rfl
    isplitl [H8]
    · iexists _, _; isplitr; swap; · iexact H8
      ipureintro; rfl
    isplitl [H9]
    · iexists _; isplitr; swap; · iexact H9
      ipureintro
      exact (decoded3 Variants.none c none i arg1 harg1 arg2 harg2 arg3 harg3 arg4 harg4 arg5 harg5 arg6 harg6 arg7 harg7 arg8 harg8 arg9 harg9 arg10 harg10 arg11 harg11 arg12 harg12 hc3 hc4 _ _ x2 (doubled_unread harg3 arg11.view _ x2 _ inb_S224x256_S224x256_0_0 inb_S2x224x128_S1x224x128_0_0_0 inb_S2x224x128_S1x224x128_1_0_0 rfl) _).trans (congrArg (fun X => decW X x2) (harg2.read_unread x1))
    isplitl [H10]
    · iexists _; isplitr; swap; · iexact H10
      ipureintro
      exact (decoded4 Variants.none c none i arg1 harg1 arg2 harg2 arg3 harg3 arg4 harg4 arg5 harg5 arg6 harg6 arg7 harg7 arg8 harg8 arg9 harg9 arg10 harg10 arg11 harg11 arg12 harg12 hc3 hc4 _ _ x4 (doubled_unread harg5 arg12.view _ x4 _ inb_S224x256_S224x256_0_0 inb_S2x224x128_S1x224x128_0_0_0 inb_S2x224x128_S1x224x128_1_0_0 rfl) _).trans (congrArg (fun X => decW X x4) (harg4.read_unread x3))
    isplitl [H11]
    · iexists _, _; isplitr; swap; · iexact H11
      ipureintro; rfl
    iexists _, _; isplitr; swap; · iexact H12
    ipureintro; rfl

end Cert.KernelIdeal.Hand
-- ==== Proof.RunC.lean ====
/- An even point between the first and the last: the next column block is decoded into the even scratch pair, the odd pair's is multiplied. -/
module

public import proofs.«01_k».proof.Proof.RunB

@[expose] public section

set_option maxRecDepth 16384

noncomputable section

namespace Cert.KernelIdeal.Hand

open Cert.KernelIdeal Cert.KernelIdeal.Gen Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- (the run's proof term is large: checking it walks past the default budget)
set_option maxHeartbeats 1000000 in
/-- An even point between the first and the last: the next column block is decoded into the even scratch pair, the odd pair's is multiplied. -/
theorem runC (c : Dev nD) (i : grid0.Coords) (arg1 : Memref sig .tc .vmem S1024x7168 .bf16) (harg1 : arg1.IsWhole) (arg2 : Memref sig .tc .vmem S7168x128 .i8) (harg2 : arg2.IsWhole) (arg3 : Memref sig .tc .vmem S224x256 .i8) (harg3 : arg3.IsWhole) (arg4 : Memref sig .tc .vmem S7168x128 .i8) (harg4 : arg4.IsWhole) (arg5 : Memref sig .tc .vmem S224x256 .i8) (harg5 : arg5.IsWhole) (arg6 : Memref sig .tc .vmem S1024x256 .bf16) (harg6 : arg6.IsWhole) (arg7 : Memref sig .tc .vmem S7168x256 .bf16) (harg7 : arg7.IsWhole) (arg8 : Memref sig .tc .vmem S7168x256 .bf16) (harg8 : arg8.IsWhole) (arg9 : Memref sig .tc .vmem S7168x256 .bf16) (harg9 : arg9.IsWhole) (arg10 : Memref sig .tc .vmem S7168x256 .bf16) (harg10 : arg10.IsWhole) (arg11 : Memref sig .tc .vmem S2x224x128 .i32) (harg11 : arg11.IsWhole) (arg12 : Memref sig .tc .vmem S2x224x128 .i32) (harg12 : arg12.IsWhole) (hc0 : cond0_0 i) (hc1 : cond0_1 i) (hc2 : cond0_2 i) (hc3 : ¬cond0_3 i)
    (x0 : Vec Ideal S1024x7168 .bf16) (x1 : Vec Ideal S7168x128 .i8) (x2 : Vec Ideal S224x256 .i8) (x3 : Vec Ideal S7168x128 .i8) (x4 : Vec Ideal S224x256 .i8) (w0 w1 : Vec Ideal S7168x256 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare w0 ∗ owns (c : Thread nD τ) arg10 fullShare w1 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (gemm x0 w0 w1) ∗ owns (c : Thread nD τ) arg7 fullShare (decW x1 x2) ∗ owns (c : Thread nD τ) arg8 fullShare (decW x3 x4) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := Ideal)) Variants.none c none) E (cc0_gated_gemm i arg1 harg1 arg2 harg2 arg3 harg3 arg4 harg4 arg5 harg5 arg6 harg6 arg7 harg7 arg8 harg8 arg9 harg9 arg10 harg10 arg11 harg11 arg12 harg12) K := by
    intro E K
    simp only [cc0_gated_gemm_eq_skeleton]; unfold cc0_gated_gemm_skel
    simp only [k0_part3_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, ⟨%d11, %f11, -, H11⟩, ⟨%d12, %f12, -, H12⟩, Hk⟩
    obtain rfl := harg1.eq_unread hf1; obtain rfl := harg2.eq_unread hf2; obtain rfl := harg3.eq_unread hf3; obtain rfl := harg4.eq_unread hf4; obtain rfl := harg5.eq_unread hf5; obtain rfl := harg9.eq_unread hf9; obtain rfl := harg10.eq_unread hf10
    sl_exec (disch := first | sl_exact hc0 | sl_exact hc1 | sl_exact hc2 | sl_exact hc3)
    sl_step
    iapply Hk
    isplitl [H1]
    · iexists _; isplitr; swap; · iexact H1
      ipureintro; exact harg1.read_unread _
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro
      exact out_read harg1 harg9 harg10 arg6.view _ x0 w0 w1 _ inb_S1024x7168_S1024x7168_0_0 inb_S7168x256_S7168x256_0_0 inb_S1024x256_S1024x256_0_0 rfl
    isplitl [H7]
    · iexists _; isplitr; swap; · iexact H7
      ipureintro
      exact (decoded1 Variants.none c none i arg1 harg1 arg2 harg2 arg3 harg3 arg4 harg4 arg5 harg5 arg6 harg6 arg7 harg7 arg8 harg8 arg9 harg9 arg10 harg10 arg11 harg11 arg12 harg12 hc0 hc1 _ _ x2 (doubled_unread harg3 arg11.view _ x2 _ inb_S224x256_S224x256_0_0 inb_S2x224x128_S1x224x128_0_0_0 inb_S2x224x128_S1x224x128_1_0_0 rfl) _).trans (congrArg (fun X => decW X x2) (harg2.read_unread x1))
    isplitl [H8]
    · iexists _; isplitr; swap; · iexact H8
      ipureintro
      exact (decoded2 Variants.none c none i arg1 harg1 arg2 harg2 arg3 harg3 arg4 harg4 arg5 harg5 arg6 harg6 arg7 harg7 arg8 harg8 arg9 harg9 arg10 harg10 arg11 harg11 arg12 harg12 hc0 hc1 _ _ x4 (doubled_unread harg5 arg12.view _ x4 _ inb_S224x256_S224x256_0_0 inb_S2x224x128_S1x224x128_0_0_0 inb_S2x224x128_S1x224x128_1_0_0 rfl) _).trans (congrArg (fun X => decW X x4) (harg4.read_unread x3))
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact H12
    ipureintro; rfl

end Cert.KernelIdeal.Hand
-- ==== Proof.RunD.lean ====
/- The last point: nothing is decoded, the odd scratch pair's column block is multiplied. -/
module

public import proofs.«01_k».proof.Proof.RunC

@[expose] public section

set_option maxRecDepth 16384

noncomputable section

namespace Cert.KernelIdeal.Hand

open Cert.KernelIdeal Cert.KernelIdeal.Gen Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- (the run's proof term is large: checking it walks past the default budget)
set_option maxHeartbeats 1000000 in
/-- The last point: nothing is decoded, the odd scratch pair's column block is multiplied. -/
theorem runD (c : Dev nD) (i : grid0.Coords) (arg1 : Memref sig .tc .vmem S1024x7168 .bf16) (harg1 : arg1.IsWhole) (arg2 : Memref sig .tc .vmem S7168x128 .i8) (harg2 : arg2.IsWhole) (arg3 : Memref sig .tc .vmem S224x256 .i8) (harg3 : arg3.IsWhole) (arg4 : Memref sig .tc .vmem S7168x128 .i8) (harg4 : arg4.IsWhole) (arg5 : Memref sig .tc .vmem S224x256 .i8) (harg5 : arg5.IsWhole) (arg6 : Memref sig .tc .vmem S1024x256 .bf16) (harg6 : arg6.IsWhole) (arg7 : Memref sig .tc .vmem S7168x256 .bf16) (harg7 : arg7.IsWhole) (arg8 : Memref sig .tc .vmem S7168x256 .bf16) (harg8 : arg8.IsWhole) (arg9 : Memref sig .tc .vmem S7168x256 .bf16) (harg9 : arg9.IsWhole) (arg10 : Memref sig .tc .vmem S7168x256 .bf16) (harg10 : arg10.IsWhole) (arg11 : Memref sig .tc .vmem S2x224x128 .i32) (harg11 : arg11.IsWhole) (arg12 : Memref sig .tc .vmem S2x224x128 .i32) (harg12 : arg12.IsWhole) (hc0 : cond0_0 i) (hc1 : ¬cond0_1 i) (hc2 : cond0_2 i) (hc3 : ¬cond0_3 i)
    (x0 : Vec Ideal S1024x7168 .bf16) (x1 : Vec Ideal S7168x128 .i8) (x2 : Vec Ideal S224x256 .i8) (x3 : Vec Ideal S7168x128 .i8) (x4 : Vec Ideal S224x256 .i8) (w0 w1 : Vec Ideal S7168x256 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare w0 ∗ owns (c : Thread nD τ) arg10 fullShare w1 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (gemm x0 w0 w1) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := Ideal)) Variants.none c none) E (cc0_gated_gemm i arg1 harg1 arg2 harg2 arg3 harg3 arg4 harg4 arg5 harg5 arg6 harg6 arg7 harg7 arg8 harg8 arg9 harg9 arg10 harg10 arg11 harg11 arg12 harg12) K := by
    intro E K
    simp only [cc0_gated_gemm_eq_skeleton]; unfold cc0_gated_gemm_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, ⟨%d11, %f11, -, H11⟩, ⟨%d12, %f12, -, H12⟩, Hk⟩
    obtain rfl := harg1.eq_unread hf1; obtain rfl := harg2.eq_unread hf2; obtain rfl := harg3.eq_unread hf3; obtain rfl := harg4.eq_unread hf4; obtain rfl := harg5.eq_unread hf5; obtain rfl := harg9.eq_unread hf9; obtain rfl := harg10.eq_unread hf10
    sl_exec (disch := first | sl_exact hc0 | sl_exact hc1 | sl_exact hc2 | sl_exact hc3)
    sl_step
    iapply Hk
    isplitl [H1]
    · iexists _; isplitr; swap; · iexact H1
      ipureintro; exact harg1.read_unread _
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro
      exact out_read harg1 harg9 harg10 arg6.view _ x0 w0 w1 _ inb_S1024x7168_S1024x7168_0_0 inb_S7168x256_S7168x256_0_0 inb_S1024x256_S1024x256_0_0 rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact H12
    ipureintro; rfl

end Cert.KernelIdeal.Hand
-- ==== Proof.Body.lean ====
/- The body at every point of the grid, with what the four scratch blocks carry from one point to the next, and the
   run of the whole program. -/
module

public import proofs.«01_k».proof.Proof.RunD
public import Idealize.ShloMosaic.Lib.Claim

@[expose] public section

set_option maxRecDepth 16384

noncomputable section

namespace Cert.KernelIdeal.Hand

open Cert.KernelIdeal Cert.KernelIdeal.Gen Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## What the scratch blocks carry between points -/

/-- The gate weights decoded at the point before point `n`. -/
def wgAt (c : Dev nD) (n : ℕ) : Vec Ideal S7168x256 .bf16 :=
  if h : n - 1 < cfg0.N then decW (iblk m c 1 ⟨n - 1, h⟩) (iblk m c 2 ⟨n - 1, h⟩) else fun _ => 0
/-- The up weights decoded at the point before point `n`. -/
def wuAt (c : Dev nD) (n : ℕ) : Vec Ideal S7168x256 .bf16 :=
  if h : n - 1 < cfg0.N then decW (iblk m c 3 ⟨n - 1, h⟩) (iblk m c 4 ⟨n - 1, h⟩) else fun _ => 0

theorem wgAt_succ (c : Dev nD) (t : Fin cfg0.N) : wgAt m c (t.val + 1) = decW (iblk m c 1 t) (iblk m c 2 t) := by
  unfold wgAt; rw [dif_pos (show t.val + 1 - 1 < cfg0.N from t.isLt)]; rfl
theorem wuAt_succ (c : Dev nD) (t : Fin cfg0.N) : wuAt m c (t.val + 1) = decW (iblk m c 3 t) (iblk m c 4 t) := by
  unfold wuAt; rw [dif_pos (show t.val + 1 - 1 < cfg0.N from t.isLt)]; rfl

/-- The even scratch pair holds decoded weights before the odd points (those up to the last), -/
def heldE (n : ℕ) : Prop := n % 2 = 1 ∧ n ≤ 432
/-- and the odd pair before the even points but the first. -/
def heldO (n : ℕ) : Prop := n % 2 = 0 ∧ 1 ≤ n ∧ n ≤ 432

/-- Contents a condition that fails says nothing of. -/
theorem exists_unheld {M : Type _} [URA M] {α : Sort _} {held : Prop} (h : ¬held) (v : α) (P : α → sProp M) :
    iprop(∃ a, ⌜held → a = v⌝ ∗ P a) = iprop(∃ a, P a) := by
  refine Idealize.SL.BI.Entails.antisymm (show iprop(∃ a, ⌜held → a = v⌝ ∗ P a) ⊢ iprop(∃ a, P a) from ?_)
    (show iprop(∃ a, P a) ⊢ iprop(∃ a, ⌜held → a = v⌝ ∗ P a) from ?_)
  · iintro ⟨%a, -, H⟩
    iexists a; iexact H
  · iintro ⟨%a, H⟩
    iexists a
    isplitr
    · ipureintro; exact fun h' => absurd h' h
    · iexact H

/-- What the core holds between points: the scratch blocks, the pair decoded last at its decoded weights, and the
    generator register. -/
def carried (c : Dev nD) (n : ℕ) : sProp 𝕄 :=
  iprop(iprop((∃ a, ⌜heldE n → a = wgAt m c n⌝ ∗ owns (c : Thread nD τ) scM0_0 fullShare a)
      ∗ (∃ a, ⌜heldE n → a = wuAt m c n⌝ ∗ owns (c : Thread nD τ) scM0_1 fullShare a)
      ∗ (∃ a, ⌜heldO n → a = wgAt m c n⌝ ∗ owns (c : Thread nD τ) scM0_2 fullShare a)
      ∗ (∃ a, ⌜heldO n → a = wuAt m c n⌝ ∗ owns (c : Thread nD τ) scM0_3 fullShare a)
      ∗ (∃ d, owns (c : Thread nD τ) scM0_4 fullShare d) ∗ (∃ d, owns (c : Thread nD τ) scM0_5 fullShare d))
    ∗ (∃ r, prngReg c r))

theorem carried_none (c : Dev nD) (n : ℕ) (hE : ¬heldE n) (hO : ¬heldO n) :
    carried m c n = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold carried
  rw [exists_unheld hE (wgAt m c n) (fun a => owns (c : Thread nD τ) scM0_0 fullShare a), exists_unheld hE (wuAt m c n) (fun a => owns (c : Thread nD τ) scM0_1 fullShare a),
    exists_unheld hO (wgAt m c n) (fun a => owns (c : Thread nD τ) scM0_2 fullShare a), exists_unheld hO (wuAt m c n) (fun a => owns (c : Thread nD τ) scM0_3 fullShare a)]

theorem carried_even (c : Dev nD) (n : ℕ) (hE : heldE n) (hO : ¬heldO n) :
    carried m c n = iprop(iprop(owns (c : Thread nD τ) scM0_0 fullShare (wgAt m c n) ∗ owns (c : Thread nD τ) scM0_1 fullShare (wuAt m c n) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold carried
  rw [exists_held hE (wgAt m c n) (fun a => owns (c : Thread nD τ) scM0_0 fullShare a), exists_held hE (wuAt m c n) (fun a => owns (c : Thread nD τ) scM0_1 fullShare a),
    exists_unheld hO (wgAt m c n) (fun a => owns (c : Thread nD τ) scM0_2 fullShare a), exists_unheld hO (wuAt m c n) (fun a => owns (c : Thread nD τ) scM0_3 fullShare a)]

theorem carried_odd (c : Dev nD) (n : ℕ) (hE : ¬heldE n) (hO : heldO n) :
    carried m c n = iprop(iprop((∃ d, owns (c : Thread nD τ) scM0_0 fullShare d) ∗ (∃ d, owns (c : Thread nD τ) scM0_1 fullShare d) ∗ owns (c : Thread nD τ) scM0_2 fullShare (wgAt m c n) ∗ owns (c : Thread nD τ) scM0_3 fullShare (wuAt m c n) ∗ (∃ d, owns (c : Thread nD τ) scM0_4 fullShare d) ∗ (∃ d, owns (c : Thread nD τ) scM0_5 fullShare d)) ∗ (∃ r, prngReg c r)) := by
  unfold carried
  rw [exists_unheld hE (wgAt m c n) (fun a => owns (c : Thread nD τ) scM0_0 fullShare a), exists_unheld hE (wuAt m c n) (fun a => owns (c : Thread nD τ) scM0_1 fullShare a),
    exists_held hO (wgAt m c n) (fun a => owns (c : Thread nD τ) scM0_2 fullShare a), exists_held hO (wuAt m c n) (fun a => owns (c : Thread nD τ) scM0_3 fullShare a)]

theorem carried_unheld (c : Dev nD) (n : ℕ) (hE : ¬heldE n) (hO : ¬heldO n) : carried m c n = Pipeline.ΦA spec0 c := by
  rw [carried_none m c n hE hO, PhiA0_eq]

/-! ## The proof data -/

/-- The arrays as launched; each input block left in place; the output block, from the second point on, the product of
    the point's rows with the weights decoded at the point before. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => gemm (iblk m c 0 t) (wgAt m c t.val) (wuAt m c t.val)
  Φ t := carried m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = gemm (iblk m c 0 t) (wgAt m c t.val) (wuAt m c t.val) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The output window is stored into at every point but the first, -/
theorem idleAt0_5 : ∀ t : Fin cfg0.N, cfg0.idle 5 (grid0.coords t) = decide (t.val = 0) :=
  (by decide +kernel : ∀ t : Fin grid0.N, idle0 5 (grid0.coords t) = decide (t.val = 0))
/-- and written back after every point but the first. -/
theorem flushAt0_5 : ∀ t : Fin cfg0.N, (cfg0.win 5).flush t = decide (1 ≤ t.val) :=
  (by decide +kernel : ∀ t : Fin grid0.N, win0_5.flush t = decide (1 ≤ t.val))

/-! ## The body, at a generic point -/

/-- What the body is called with at point `t`, the windows one by one, -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t)

theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]
theorem leaves0_3 (c : Dev nD) (t : Fin cfg0.N) :
    (dats m 0 c).leavesExact 3 t = owns (c : Thread nD τ) (ms0_3 t) fullShare (iblk m c 3 t) := by
  unfold Dat.leavesExact; rw [liveAt0_3 t, after0_3]
theorem leaves0_4 (c : Dev nD) (t : Fin cfg0.N) :
    (dats m 0 c).leavesExact 4 t = owns (c : Thread nD τ) (ms0_4 t) fullShare (iblk m c 4 t) := by
  unfold Dat.leavesExact; rw [liveAt0_4 t, after0_4]
theorem leaves0_5 (c : Dev nD) (t : Fin cfg0.N) (h : 1 ≤ t.val) :
    (dats m 0 c).leavesExact 5 t
      = owns (c : Thread nD τ) (ms0_5 t) fullShare (gemm (iblk m c 0 t) (wgAt m c t.val) (wuAt m c t.val)) := by
  unfold Dat.leavesExact; rw [idleAt0_5 t, decide_eq_false (by omega), after0_5]
theorem leaves0_5_first (c : Dev nD) (t : Fin cfg0.N) (h : t.val = 0) :
    (dats m 0 c).leavesExact 5 t
      = iprop(∃ d, owns (c : Thread nD τ) (ms0_5 t) fullShare ((dats m 0 c).before 5 t d)) :=
  (dats m 0 c).leavesExact_idle 5 t (by rw [idleAt0_5 t, decide_eq_true h]) (by rw [flushAt0_5 t, decide_eq_false (by omega)])

set_option maxHeartbeats 1600000 in
/-- The first point. -/
theorem sound_A (c : Dev nD) (t : Fin cfg0.N) (hf : t.val = 0) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).Φ t.castSucc = carried m c t.val from rfl, show (dats m 0 c).Φ t.succ = carried m c (t.val + 1) from rfl,
    show (dats m 0 c).owesAt () t.succ = (dats m 0 c).owesAt () t.castSucc from rfl]
  rw [carried_none m c t.val (by unfold heldE; omega) (by unfold heldO; omega),
    carried_even m c (t.val + 1) (by unfold heldE; omega) (by unfold heldO; omega)]
  rw [leaves0_0, leaves0_1, leaves0_2, leaves0_3, leaves0_4, leaves0_5_first m c t hf]
  rw [wgAt_succ, wuAt_succ]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩⟩
  iapply ((runA c (grid0.coords t) _ _ _ _ _ _ _ _ _ _ _ _ _ _ _ _ _ _ _ _ _ _ _ _ ((hcond0_0 t).mpr (by omega)) ((hcond0_1 t).mpr (by omega)) (fun h => absurd ((hcond0_2 t).mp h) (by omega)) (fun h => absurd ((hcond0_3 t).mp h) (by omega)) (iblk m c 0 t) (iblk m c 1 t) (iblk m c 2 t) (iblk m c 3 t) (iblk m c 4 t) ((dats m 0 c).before 5 t d5)) Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  iexists d5; iexact H5

set_option maxHeartbeats 1600000 in
/-- An odd point. -/
theorem sound_B (c : Dev nD) (t : Fin cfg0.N) (hf : 1 ≤ t.val) (h2 : t.val % 2 = 1) (h3 : t.val < 432) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).Φ t.castSucc = carried m c t.val from rfl, show (dats m 0 c).Φ t.succ = carried m c (t.val + 1) from rfl,
    show (dats m 0 c).owesAt () t.succ = (dats m 0 c).owesAt () t.castSucc from rfl]
  rw [carried_even m c t.val (by unfold heldE; omega) (by unfold heldO; omega),
    carried_odd m c (t.val + 1) (by unfold heldE; omega) (by unfold heldO; omega)]
  rw [leaves0_0, leaves0_1, leaves0_2, leaves0_3, leaves0_4, leaves0_5 m c t hf]
  rw [wgAt_succ, wuAt_succ]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩⟩
  iapply ((runB c (grid0.coords t) _ _ _ _ _ _ _ _ _ _ _ _ _ _ _ _ _ _ _ _ _ _ _ _ (fun h => absurd ((hcond0_0 t).mp h) (by omega)) ((hcond0_3 t).mpr (by omega)) ((hcond0_4 t).mpr (by omega)) ((hcond0_5 t).mpr (by omega)) (iblk m c 0 t) (iblk m c 1 t) (iblk m c 2 t) (iblk m c 3 t) (iblk m c 4 t) (wgAt m c t.val) (wuAt m c t.val)) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 1600000 in
/-- An even point between the first and the last. -/
theorem sound_C (c : Dev nD) (t : Fin cfg0.N) (hf : 1 ≤ t.val) (h2 : t.val % 2 = 0) (h3 : t.val < 432) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).Φ t.castSucc = carried m c t.val from rfl, show (dats m 0 c).Φ t.succ = carried m c (t.val + 1) from rfl,
    show (dats m 0 c).owesAt () t.succ = (dats m 0 c).owesAt () t.castSucc from rfl]
  rw [carried_odd m c t.val (by unfold heldE; omega) (by unfold heldO; omega),
    carried_even m c (t.val + 1) (by unfold heldE; omega) (by unfold heldO; omega)]
  rw [leaves0_0, leaves0_1, leaves0_2, leaves0_3, leaves0_4, leaves0_5 m c t hf]
  rw [wgAt_succ, wuAt_succ]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩⟩
  iapply ((runC c (grid0.coords t) _ _ _ _ _ _ _ _ _ _ _ _ _ _ _ _ _ _ _ _ _ _ _ _ ((hcond0_0 t).mpr (by omega)) ((hcond0_1 t).mpr (by omega)) ((hcond0_2 t).mpr (by omega)) (fun h => absurd ((hcond0_3 t).mp h) (by omega)) (iblk m c 0 t) (iblk m c 1 t) (iblk m c 2 t) (iblk m c 3 t) (iblk m c 4 t) (wgAt m c t.val) (wuAt m c t.val)) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 1600000 in
/-- The last point. -/
theorem sound_D (c : Dev nD) (t : Fin cfg0.N) (hf : 1 ≤ t.val) (h2 : t.val = 432) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).Φ t.castSucc = carried m c t.val from rfl, show (dats m 0 c).Φ t.succ = carried m c (t.val + 1) from rfl,
    show (dats m 0 c).owesAt () t.succ = (dats m 0 c).owesAt () t.castSucc from rfl]
  rw [carried_odd m c t.val (by unfold heldE; omega) (by unfold heldO; omega),
    carried_none m c (t.val + 1) (by unfold heldE; omega) (by unfold heldO; omega)]
  rw [leaves0_0, leaves0_1, leaves0_2, leaves0_3, leaves0_4, leaves0_5 m c t hf]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩⟩
  iapply ((runD c (grid0.coords t) _ _ _ _ _ _ _ _ _ _ _ _ _ _ _ _ _ _ _ _ _ _ _ _ ((hcond0_0 t).mpr (by omega)) (fun h => absurd ((hcond0_1 t).mp h) (by omega)) ((hcond0_2 t).mpr (by omega)) (fun h => absurd ((hcond0_3 t).mp h) (by omega)) (iblk m c 0 t) (iblk m c 1 t) (iblk m c 2 t) (iblk m c 3 t) (iblk m c 4 t) (wgAt m c t.val) (wuAt m c t.val)) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body at any point. -/
theorem sound_body (c : Dev nD) (t : Fin cfg0.N) :
    bodyPre m c t ⊢ wp frame (wpE (defs₀ (F := Ideal)) Variants.none c none) Set.univ (bodyAt0 t) (fun _ => bodyPost m c t) := by
  have hN : t.val < 433 := lt_of_lt_of_eq t.isLt (show cfg0.N = 433 from N_0)
  by_cases h0 : t.val = 0
  · exact sound_A m c t h0
  by_cases h1 : t.val % 2 = 1
  · exact sound_B m c t (by omega) h1 (by omega)
  by_cases h2 : t.val < 432
  · exact sound_C m c t (by omega) (by omega) h2
  · exact sound_D m c t (by omega) (by omega)

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run -/

-- the theorem's implicit arguments are found by unifying its conclusion with this one, which takes unfolding plain
-- definitions in a metavariable's type
set_option backward.isDefEq.respectTransparency.types false in
/-- The launch: every window's array ends at what the blocks written back make of it, every semaphore counter at zero. -/
theorem run_main_quiescent : θ_run defs (onTc (τ := τ) (main (F := Ideal))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      rw [show (dats m 0 c).Φ 0 = carried m c 0 from rfl, carried_unheld m c 0 (by unfold heldE; omega) (by unfold heldO; omega)])
    (hout := fun c => by
      rw [show (dats m 0 c).Φ (Fin.last (cfgs 0).N) = carried m c cfg0.N from rfl, show cfg0.N = 433 from N_0,
        carried_unheld m c 433 (by unfold heldE; omega) (by unfold heldO; omega)])

/-- The frame claim's post, from that run. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.KernelIdeal.Hand

end
-- ==== Proof.Output.lean ====
/- The kernel's result array over the extended reals: entry `(i, j)` is `g · logistic g · u`, with `g` and `u` row `i` of
   the activations times column `j` of the decoded gate and up weights. Every point of the grid from the second on writes
   one 1024 × 256 block of it, from the weights decoded at the point before. -/
module

public import proofs.«01_k».proof.Proof.Body
public import Idealize.ShloMosaic.Lib.Pipeline.Value
public import Idealize.ShloMosaic.Lib.MatmulPlain

@[expose] public section

set_option maxRecDepth 16384

noncomputable section

namespace Cert.KernelIdeal.Hand

open Cert.KernelIdeal Cert.KernelIdeal.Gen Idealize.ShloMosaic Idealize.ShloMosaic.TcCoe Idealize.ShloMosaic.Tactic
open Idealize.ShloMosaic.ValueIdx
open Idealize.SL.Sem
open scoped BigOperators

variable (m : (ℓ : Loc nD τ sig) → Buf (Elt Ideal) ℓ) (ρ : Dev nD → PrngReg)

/-! ## One block of the product -/

/-- One entry of the product of a block of activations with a block of weights, from the zero accumulator. -/
theorem product_apply (x0 : Vec Ideal S1024x7168 .bf16) (w : Vec Ideal S7168x256 .bf16) (r : Fin 1024) (l : Fin 256) :
    FloatOps.matmul (F := Ideal) (φ₁ := .bf16) (φ₂ := .bf16) dot_S1024x7168_S7168x256_S1024x256_1_0_0_1_n_n none x0 w
      (constant S1024x256 .f32 0x00000000#32) (ix2 r l)
      = ∑ k : Fin 7168, (x0 (ix2 r k) : EReal) * w (ix2 k l) := by
  have h := Ideal.matmul_plain_apply (M := 1024) (K := 7168) (N := 256) (φ₁ := .bf16) (φ₂ := .bf16) none x0 w
    (constant S1024x256 .f32 0x00000000#32) r l
  refine Eq.trans ?_ (h.trans ?_)
  · rfl
  · rw [show (constant (F := Ideal) S1024x256 .f32 0x00000000#32 (ix2 r l) : EReal) = 0 from
      (by simp [constant, Ideal.ofBits, Ideal.ieee])]
    exact zero_add _

/-- Row `r` of the block of activations times column `l` of the block of weights. -/
def dotAt (x0 : Vec Ideal S1024x7168 .bf16) (w : Vec Ideal S7168x256 .bf16) (r : Fin 1024) (l : Fin 256) : EReal :=
  ∑ k : Fin 7168, (x0 (ix2 r k) : EReal) * w (ix2 k l)

/-- One entry of the block a point writes. -/
theorem gemm_apply (x0 : Vec Ideal S1024x7168 .bf16) (w0 w1 : Vec Ideal S7168x256 .bf16) (r : Fin 1024) (l : Fin 256) :
    gemm x0 w0 w1 (ix2 r l) = dotAt x0 w0 r l * Ideal.logistic (dotAt x0 w0 r l) * dotAt x0 w1 r l := by
  unfold dotAt
  rw [← product_apply x0 w0 r l, ← product_apply x0 w1 r l]
  rfl

/-! ## The whole result -/

/-- Row `i 0` of the activations times column `i 1` of the weights decoded from the whole arrays of codes and scales. -/
def projK (x0 : S6144x7168.Idx → EReal) (X : S7168x9216.Idx → BitVec 8) (S : S224x18432.Idx → BitVec 8) (i : S6144x18432.Idx) : EReal :=
  ∑ k : Fin 7168, x0 (ix2 ⟨(i 0).val, (i 0).isLt⟩ k) * wEntry (decide ((i 1).val % 2 = 1))
    (X (ix2 k ⟨(i 1).val / 2, by have : (i 1).val < 18432 := (i 1).isLt; omega⟩))
    (S (ix2 ⟨k.val / 32, by have := k.isLt; omega⟩ ⟨(i 1).val, (i 1).isLt⟩))

/-- The kernel's result as a function of its five arguments. -/
def result (x0 : S6144x7168.Idx → EReal) (x1 : S7168x9216.Idx → BitVec 8) (x2 : S224x18432.Idx → BitVec 8)
    (x3 : S7168x9216.Idx → BitVec 8) (x4 : S224x18432.Idx → BitVec 8) (i : S6144x18432.Idx) : EReal :=
  projK x0 x1 x2 i * Ideal.logistic (projK x0 x1 x2 i) * projK x0 x3 x4 i

/-! ## Which block each window is at -/

/-- Six row blocks, each for 72 points. -/
theorem index_0 : ∀ t : Fin cfg0.N, win0_0.index t (0 : Fin 2) = (t.val - 1) / 72 ∧ win0_0.index t (1 : Fin 2) = 0 :=
  (by decide +kernel : ∀ t : Fin grid0.N, _)
/-- The column blocks of the gate codes, in turn. -/
theorem index_1 : ∀ t : Fin cfg0.N, win0_1.index t (0 : Fin 2) = 0 ∧ win0_1.index t (1 : Fin 2) = (min t.val 431) % 72 :=
  (by decide +kernel : ∀ t : Fin grid0.N, _)
/-- The column blocks of the gate scales, in turn. -/
theorem index_2 : ∀ t : Fin cfg0.N, win0_2.index t (0 : Fin 2) = 0 ∧ win0_2.index t (1 : Fin 2) = (min t.val 431) % 72 :=
  (by decide +kernel : ∀ t : Fin grid0.N, _)
/-- The column blocks of the up codes, in turn. -/
theorem index_3 : ∀ t : Fin cfg0.N, win0_3.index t (0 : Fin 2) = 0 ∧ win0_3.index t (1 : Fin 2) = (min t.val 431) % 72 :=
  (by decide +kernel : ∀ t : Fin grid0.N, _)
/-- The column blocks of the up scales, in turn. -/
theorem index_4 : ∀ t : Fin cfg0.N, win0_4.index t (0 : Fin 2) = 0 ∧ win0_4.index t (1 : Fin 2) = (min t.val 431) % 72 :=
  (by decide +kernel : ∀ t : Fin grid0.N, _)
/-- The blocks of the result, row by row, one point late. -/
theorem index_5 : ∀ t : Fin cfg0.N, win0_5.index t (0 : Fin 2) = (t.val - 1) / 72 ∧ win0_5.index t (1 : Fin 2) = (t.val - 1) % 72 :=
  (by decide +kernel : ∀ t : Fin grid0.N, _)

/-! ## A block's entries, in the whole array -/

theorem iblk0_apply (c : Dev nD) (t : Fin cfg0.N) (ht : 1 ≤ t.val) (r : Fin 1024) (k : Fin 7168) :
    iblk m c 0 t (ix2 r k) = V m c main_arg0 (ix2 ⟨(t.val - 1) / 72 * 1024 + r.val, by
      have := t.isLt; have : cfg0.N = 433 := N_0; have := r.isLt; omega⟩ k) := by
  obtain ⟨e0, e1⟩ := index_0 t
  show V m c main_arg0 (((cfg0.win 0).blk t).view.emb (ix2 r k)) = _
  refine congrArg (V m c main_arg0) (funext fun a => Fin.ext ?_)
  match a with
  | ⟨0, _⟩ => show win0_0.index t (0 : Fin 2) * 1024 + 1 * r.val = _; rw [e0]; show _ = (t.val - 1) / 72 * 1024 + r.val; omega
  | ⟨1, _⟩ => show win0_0.index t (1 : Fin 2) * 7168 + 1 * k.val = k.val; omega

theorem iblk1_apply (c : Dev nD) (t : Fin cfg0.N) (ht : t.val < 432) (r : Fin 7168) (l : Fin 128) :
    iblk m c 1 t (ix2 r l) = V m c main_arg1 (ix2 r ⟨t.val % 72 * 128 + l.val, by have := l.isLt; omega⟩) := by
  obtain ⟨e0, e1⟩ := index_1 t
  show V m c main_arg1 (((cfg0.win 1).blk t).view.emb (ix2 r l)) = _
  refine congrArg (V m c main_arg1) (funext fun a => Fin.ext ?_)
  match a with
  | ⟨0, _⟩ => show win0_1.index t (0 : Fin 2) * 7168 + 1 * r.val = r.val; omega
  | ⟨1, _⟩ =>
    show win0_1.index t (1 : Fin 2) * 128 + 1 * l.val = t.val % 72 * 128 + l.val
    rw [e1, show min t.val 431 = t.val by omega]; omega

theorem iblk2_apply (c : Dev nD) (t : Fin cfg0.N) (ht : t.val < 432) (r : Fin 224) (l : Fin 256) :
    iblk m c 2 t (ix2 r l) = V m c main_arg2 (ix2 r ⟨t.val % 72 * 256 + l.val, by have := l.isLt; omega⟩) := by
  obtain ⟨e0, e1⟩ := index_2 t
  show V m c main_arg2 (((cfg0.win 2).blk t).view.emb (ix2 r l)) = _
  refine congrArg (V m c main_arg2) (funext fun a => Fin.ext ?_)
  match a with
  | ⟨0, _⟩ => show win0_2.index t (0 : Fin 2) * 224 + 1 * r.val = r.val; omega
  | ⟨1, _⟩ =>
    show win0_2.index t (1 : Fin 2) * 256 + 1 * l.val = t.val % 72 * 256 + l.val
    rw [e1, show min t.val 431 = t.val by omega]; omega

theorem iblk3_apply (c : Dev nD) (t : Fin cfg0.N) (ht : t.val < 432) (r : Fin 7168) (l : Fin 128) :
    iblk m c 3 t (ix2 r l) = V m c main_arg3 (ix2 r ⟨t.val % 72 * 128 + l.val, by have := l.isLt; omega⟩) := by
  obtain ⟨e0, e1⟩ := index_3 t
  show V m c main_arg3 (((cfg0.win 3).blk t).view.emb (ix2 r l)) = _
  refine congrArg (V m c main_arg3) (funext fun a => Fin.ext ?_)
  match a with
  | ⟨0, _⟩ => show win0_3.index t (0 : Fin 2) * 7168 + 1 * r.val = r.val; omega
  | ⟨1, _⟩ =>
    show win0_3.index t (1 : Fin 2) * 128 + 1 * l.val = t.val % 72 * 128 + l.val
    rw [e1, show min t.val 431 = t.val by omega]; omega

theorem iblk4_apply (c : Dev nD) (t : Fin cfg0.N) (ht : t.val < 432) (r : Fin 224) (l : Fin 256) :
    iblk m c 4 t (ix2 r l) = V m c main_arg4 (ix2 r ⟨t.val % 72 * 256 + l.val, by have := l.isLt; omega⟩) := by
  obtain ⟨e0, e1⟩ := index_4 t
  show V m c main_arg4 (((cfg0.win 4).blk t).view.emb (ix2 r l)) = _
  refine congrArg (V m c main_arg4) (funext fun a => Fin.ext ?_)
  match a with
  | ⟨0, _⟩ => show win0_4.index t (0 : Fin 2) * 224 + 1 * r.val = r.val; omega
  | ⟨1, _⟩ =>
    show win0_4.index t (1 : Fin 2) * 256 + 1 * l.val = t.val % 72 * 256 + l.val
    rw [e1, show min t.val 431 = t.val by omega]; omega

/-- An index of a point's block of the result, in the whole result. -/
theorem emb_5 (t : Fin cfg0.N) (ht : 1 ≤ t.val) (r : Fin 1024) (l : Fin 256) :
    ((cfg0.win 5).blk t).view.emb (ix2 r l) = (ix2 ⟨(t.val - 1) / 72 * 1024 + r.val, by
      have := t.isLt; have : cfg0.N = 433 := N_0; have := r.isLt; omega⟩
      ⟨(t.val - 1) % 72 * 256 + l.val, by have := l.isLt; omega⟩ : S6144x18432.Idx) := by
  obtain ⟨e0, e1⟩ := index_5 t
  funext a; apply Fin.ext
  match a with
  | ⟨0, _⟩ => show win0_5.index t (0 : Fin 2) * 1024 + 1 * r.val = (t.val - 1) / 72 * 1024 + r.val; omega
  | ⟨1, _⟩ => show win0_5.index t (1 : Fin 2) * 256 + 1 * l.val = (t.val - 1) % 72 * 256 + l.val; omega

/-! ## A point's block is its block of the result -/

/-- The gate weights point `t` multiplies by, decoded at the point before it: one entry, from the whole arrays. -/
theorem gate_apply (c : Dev nD) (t : Fin cfg0.N) (ht : 1 ≤ t.val) (k : Fin 7168) (l : Fin 256) :
    wgAt m c t.val (ix2 k l) = wEntry (decide (((t.val - 1) % 72 * 256 + l.val) % 2 = 1))
      (V m c main_arg1 (ix2 k ⟨((t.val - 1) % 72 * 256 + l.val) / 2, by have := l.isLt; omega⟩))
      (V m c main_arg2 (ix2 ⟨k.val / 32, by have := k.isLt; omega⟩ ⟨(t.val - 1) % 72 * 256 + l.val, by have := l.isLt; omega⟩)) := by
  have hN : cfg0.N = 433 := N_0
  have hl := l.isLt
  have htl := t.isLt
  let s : Fin cfg0.N := ⟨t.val - 1, by omega⟩
  have hs : s.val = t.val - 1 := rfl
  have hw : wgAt m c t.val = wgAt m c (s.val + 1) := congrArg (wgAt m c) (by omega)
  rw [hw, wgAt_succ m c s]
  unfold decW
  refine congr (congr (congrArg wEntry (decide_eq_decide.2 ?_)) ?_) ?_
  · show l.val % 2 = 1 ↔ _
    omega
  · refine (iblk1_apply m c s (by omega) _ _).trans (congrArg (V m c main_arg1) (funext fun a => Fin.ext ?_))
    match a with
    | ⟨0, _⟩ => rfl
    | ⟨1, _⟩ => show s.val % 72 * 128 + l.val / 2 = ((t.val - 1) % 72 * 256 + l.val) / 2; omega
  · refine (iblk2_apply m c s (by omega) _ _).trans (congrArg (V m c main_arg2) (funext fun a => Fin.ext ?_))
    match a with
    | ⟨0, _⟩ => rfl
    | ⟨1, _⟩ => show s.val % 72 * 256 + l.val = (t.val - 1) % 72 * 256 + l.val; omega

/-- The up weights point `t` multiplies by, decoded at the point before it: one entry, from the whole arrays. -/
theorem up_apply (c : Dev nD) (t : Fin cfg0.N) (ht : 1 ≤ t.val) (k : Fin 7168) (l : Fin 256) :
    wuAt m c t.val (ix2 k l) = wEntry (decide (((t.val - 1) % 72 * 256 + l.val) % 2 = 1))
      (V m c main_arg3 (ix2 k ⟨((t.val - 1) % 72 * 256 + l.val) / 2, by have := l.isLt; omega⟩))
      (V m c main_arg4 (ix2 ⟨k.val / 32, by have := k.isLt; omega⟩ ⟨(t.val - 1) % 72 * 256 + l.val, by have := l.isLt; omega⟩)) := by
  have hN : cfg0.N = 433 := N_0
  have hl := l.isLt
  have htl := t.isLt
  let s : Fin cfg0.N := ⟨t.val - 1, by omega⟩
  have hs : s.val = t.val - 1 := rfl
  have hw : wuAt m c t.val = wuAt m c (s.val + 1) := congrArg (wuAt m c) (by omega)
  rw [hw, wuAt_succ m c s]
  unfold decW
  refine congr (congr (congrArg wEntry (decide_eq_decide.2 ?_)) ?_) ?_
  · show l.val % 2 = 1 ↔ _
    omega
  · refine (iblk3_apply m c s (by omega) _ _).trans (congrArg (V m c main_arg3) (funext fun a => Fin.ext ?_))
    match a with
    | ⟨0, _⟩ => rfl
    | ⟨1, _⟩ => show s.val % 72 * 128 + l.val / 2 = ((t.val - 1) % 72 * 256 + l.val) / 2; omega
  · refine (iblk4_apply m c s (by omega) _ _).trans (congrArg (V m c main_arg4) (funext fun a => Fin.ext ?_))
    match a with
    | ⟨0, _⟩ => rfl
    | ⟨1, _⟩ => show s.val % 72 * 256 + l.val = (t.val - 1) % 72 * 256 + l.val; omega

/-- Every entry of the block a point writes back is the result's entry there. -/
theorem block_apply (c : Dev nD) (t : Fin cfg0.N) (ht : 1 ≤ t.val) (r : Fin 1024) (l : Fin 256) :
    gemm (iblk m c 0 t) (wgAt m c t.val) (wuAt m c t.val) (ix2 r l)
      = result (V m c main_arg0) (V m c main_arg1) (V m c main_arg2) (V m c main_arg3) (V m c main_arg4)
          (((cfg0.win 5).blk t).view.emb (ix2 r l)) := by
  have hg : dotAt (iblk m c 0 t) (wgAt m c t.val) r l
      = projK (V m c main_arg0) (V m c main_arg1) (V m c main_arg2) (((cfg0.win 5).blk t).view.emb (ix2 r l)) := by
    rw [emb_5 t ht r l]
    refine Finset.sum_congr rfl fun k _ => ?_
    exact congrArg₂ (fun a b : EReal => a * b) (iblk0_apply m c t ht r k) (gate_apply m c t ht k l)
  have hu : dotAt (iblk m c 0 t) (wuAt m c t.val) r l
      = projK (V m c main_arg0) (V m c main_arg3) (V m c main_arg4) (((cfg0.win 5).blk t).view.emb (ix2 r l)) := by
    rw [emb_5 t ht r l]
    refine Finset.sum_congr rfl fun k _ => ?_
    exact congrArg₂ (fun a b : EReal => a * b) (iblk0_apply m c t ht r k) (up_apply m c t ht k l)
  rw [gemm_apply, hg, hu]; rfl

/-- What a point writes back is its block of the result. -/
theorem flushed_eq (c : Dev nD) (t : Fin cfg0.N) (ht : 1 ≤ t.val) :
    (dats m 0 c).flushed 5 t = ((cfg0.win 5).blk t).view.read (Elt Ideal)
      (result (V m c main_arg0) (V m c main_arg1) (V m c main_arg2) (V m c main_arg3) (V m c main_arg4)) := by
  funext j
  show (dats m 0 c).after 5 t j = _
  rw [after0_5]
  have h := block_apply m c t ht (j 0) (j 1)
  have hj : ix2 (n0 := 1024) (n1 := 256) (j 0) (j 1) = j := (eq_ix2 (n0 := 1024) (n1 := 256) j).symm
  exact (congrArg (gemm (iblk m c 0 t) (wgAt m c t.val) (wuAt m c t.val)) hj.symm).trans (h.trans (congrArg (fun j' =>
    result (V m c main_arg0) (V m c main_arg1) (V m c main_arg2) (V m c main_arg3) (V m c main_arg4)
      (((cfg0.win 5).blk t).view.emb j')) hj))

/-- Every entry of the result is in some point's block: column block `q` of row block `p` in that of point `72 p + q + 1`. -/
theorem covered (i : S6144x18432.Idx) : ∃ t : Fin cfg0.N, (cfg0.win 5).flush t = true ∧ i ∈ ((cfg0.win 5).blk t).view.set := by
  have h0 : (i 0).val < 6144 := (i 0).isLt
  have h1 : (i 1).val < 18432 := (i 1).isLt
  have hN : cfg0.N = 433 := N_0
  let t : Fin cfg0.N := ⟨(i 0).val / 1024 * 72 + (i 1).val / 256 + 1, by omega⟩
  have ht : t.val = (i 0).val / 1024 * 72 + (i 1).val / 256 + 1 := rfl
  refine ⟨t, by rw [flushAt0_5]; exact decide_eq_true (by omega), ?_⟩
  have h := ((cfg0.win 5).blk t).view.emb_mem_set (ix2 (⟨(i 0).val % 1024, by omega⟩ : Fin 1024) (⟨(i 1).val % 256, by omega⟩ : Fin 256))
  rw [emb_5 t (by omega)] at h
  refine (congrArg (· ∈ ((cfg0.win 5).blk t).view.set) (funext fun a => Fin.ext ?_)).mp h
  match a with
  | ⟨0, _⟩ => show (t.val - 1) / 72 * 1024 + (i 0).val % 1024 = (i 0).val; omega
  | ⟨1, _⟩ => show (t.val - 1) % 72 * 256 + (i 1).val % 256 = (i 1).val; omega

/-- The result array after the run. -/
theorem final (c : Dev nD) : (dats m 0 c).arrAt 5 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) :=
  ((dats m 0 c).arrAt_eq_of_cover 5
    (result (V m c main_arg0) (V m c main_arg1) (V m c main_arg2) (V m c main_arg3) (V m c main_arg4))
    (fun t hf => flushed_eq m c t (by rw [flushAt0_5] at hf; exact of_decide_eq_true hf)) covered).trans
    (by rw [V_main_arg0, V_main_arg1, V_main_arg2, V_main_arg3, V_main_arg4])

/-- The run with the result array at its function of the arguments, which are unchanged. -/
theorem run : θ_run defs (onTc (τ := τ) (main (F := Ideal))) ⟨m, fun _ => 0, ρ⟩ fun r => ∀ c : Dev nD,
      r.2.mem ((c.tc : Thread nD τ).loc main_v0)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have hp : θ_run defs (onTc (τ := τ) (main (F := Ideal))) ⟨m, fun _ => 0, ρ⟩ (Pipeline.FramePost cfgs (dats m) 0 (V m)) :=
    (θ_run defs _ _).mono (fun _ h => h.1) (run_main_quiescent m ρ)
  exact (θ_run defs _ _).mono (fun r h c => ⟨((h.1 c).1 5).trans (final m c), h.2.1 c⟩) (θ_run_and hp (frame m ρ))

end Cert.KernelIdeal.Hand

end
-- ==== Proof.Reference.lean ====
/- The reference read at an index, over the extended reals: a weight is its code's value times its scale, a product is a sum
   over the 7168 columns of the activations, and the result is the gated product. -/
module

public import proofs.«01_k».proof.Proof.Gen.ReferenceIdeal.Read
public import Idealize.ShloMosaic.Lib.ValueIdx
public import Idealize.ShloMosaic.PureOps.Ideal.Laws

@[expose] public section

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

/-- Bit `k` of a code, as the reference tests it. -/
def bit (p k : BitVec 32) : BitVec 1 := IntOp.cmpi .ne (IntOp.andi (IntOp.shrsi .host p k) 1#32) 0#32

/-- The reference's magnitude of a four-bit code. -/
def refMag (p : BitVec 32) : EReal :=
  Scalar.select (bit p 2#32)
    (Scalar.select (bit p 1#32)
      (Scalar.select (IntOp.cmpi .ne (IntOp.andi p 1#32) 0#32) (Ideal.ofBits .f32 0x40C00000#32) (Ideal.ofBits .f32 0x40800000#32))
      (Scalar.select (IntOp.cmpi .ne (IntOp.andi p 1#32) 0#32) (Ideal.ofBits .f32 0x40400000#32) (Ideal.ofBits .f32 0x40000000#32)))
    (Scalar.select (bit p 1#32)
      (Scalar.select (IntOp.cmpi .ne (IntOp.andi p 1#32) 0#32) (Ideal.ofBits .f32 0x3FC00000#32) (Ideal.ofBits .f32 0x3F800000#32))
      (Scalar.select (IntOp.cmpi .ne (IntOp.andi p 1#32) 0#32) (Ideal.ofBits .f32 0x3F000000#32) (Ideal.ofBits .f32 0x00000000#32)))

/-- The reference's value of a four-bit code. -/
def refCode (p : BitVec 32) : EReal := Scalar.select (bit p 3#32) (-(refMag p)) (refMag p)

/-- The code the reference takes of a byte: its low half at even columns, its high half at odd ones. -/
def refNib (odd : Bool) (c : BitVec 8) : BitVec 32 :=
  if odd then IntOp.shrsi .host (c.setWidth 32) 4#32 else IntOp.andi (c.setWidth 32) 15#32

/-- The reference's scale: two to the power of the scale byte less its bias. -/
def refScale (s : BitVec 8) : EReal :=
  Ideal.pow (Ideal.ofBits .f32 0x40000000#32) (((IntOp.subi (s.setWidth 32) 127#32).toInt : ℝ) : EReal)

/-- One weight of the reference. -/
def refEntry (odd : Bool) (c s : BitVec 8) : EReal := refCode (refNib odd c) * refScale s

theorem gateLo_code (x1 : (⟨S7168x9216, .i8⟩ : BufTy).Contents (Elt Ideal)) (i : S7168x9216.Idx) :
    val_main_v34 (F := Ideal) x1 i = refCode (refNib false (x1 i)) := rfl

theorem gateLo_scale (x2 : (⟨S224x18432, .i8⟩ : BufTy).Contents (Elt Ideal)) (i : S224x9216.Idx) :
    val_main_v42 (F := Ideal) x2 i = refScale (x2 (ix2 ⟨(i 0).val, (i 0).isLt⟩
      ⟨2 * (i 1).val + 0, by have : (i 1).val < 9216 := (i 1).isLt; omega⟩)) := by
  have hs : val_main_v3 (F := Ideal) x2 i = x2 (ix2 ⟨(i 0).val, (i 0).isLt⟩
      ⟨2 * (i 1).val + 0, by have : (i 1).val < 9216 := (i 1).isLt; omega⟩) := by
    unfold val_main_v3 Host.slice
    refine congrArg x2 (funext fun a => Fin.ext ?_)
    match a with
    | ⟨0, _⟩ => show 0 + 1 * (i 0).val = (i 0).val; omega
    | ⟨1, _⟩ => show 0 + 2 * (i 1).val = 2 * (i 1).val + 0; omega
  rw [← hs]; rfl

theorem gateLo_weight (x1 : (⟨S7168x9216, .i8⟩ : BufTy).Contents (Elt Ideal)) (x2 : (⟨S224x18432, .i8⟩ : BufTy).Contents (Elt Ideal))
    (i : S7168x9216.Idx) :
    val_main_v47 (F := Ideal) x1 x2 i = refEntry false (x1 i)
      (x2 (ix2 ⟨(i 0).val / 32, by have : (i 0).val < 7168 := (i 0).isLt; omega⟩
        ⟨2 * (i 1).val + 0, by have : (i 1).val < 9216 := (i 1).isLt; omega⟩)) := by
  have h0 : (i 0).val < 7168 := (i 0).isLt
  have h1 : (i 1).val < 9216 := (i 1).isLt
  rw [val_main_v47_apply, val_main_v46_apply, val_main_v45_apply, val_main_v36_apply, val_main_v35_apply, gateLo_code, val_main_v44_apply, val_main_v43_apply, gateLo_scale]
  unfold refEntry
  refine congrArg₂ (fun a b : EReal => a * b) (congrArg (fun j => refCode (refNib false (x1 j))) (funext fun a => Fin.ext ?_))
    (congrArg (fun j => refScale (x2 j)) (funext fun a => Fin.ext ?_))
  · match a with
    | ⟨0, _⟩ =>
      show ((((i 0).val * 9216 + (i 1).val) / 294912 * 32 + ((i 0).val * 9216 + (i 1).val) / 9216 % 32) * 9216
        + ((i 0).val * 9216 + (i 1).val) % 9216) / 9216 = (i 0).val
      omega
    | ⟨1, _⟩ =>
      show ((((i 0).val * 9216 + (i 1).val) / 294912 * 32 + ((i 0).val * 9216 + (i 1).val) / 9216 % 32) * 9216
        + ((i 0).val * 9216 + (i 1).val) % 9216) % 9216 = (i 1).val
      omega
  · match a with
    | ⟨0, _⟩ => show ((i 0).val * 9216 + (i 1).val) / 294912 = (i 0).val / 32; omega
    | ⟨1, _⟩ => show 2 * (((i 0).val * 9216 + (i 1).val) % 9216) + 0 = 2 * (i 1).val + 0; omega

theorem gateHi_code (x1 : (⟨S7168x9216, .i8⟩ : BufTy).Contents (Elt Ideal)) (i : S7168x9216.Idx) :
    val_main_v81 (F := Ideal) x1 i = refCode (refNib true (x1 i)) := rfl

theorem gateHi_scale (x2 : (⟨S224x18432, .i8⟩ : BufTy).Contents (Elt Ideal)) (i : S224x9216.Idx) :
    val_main_v89 (F := Ideal) x2 i = refScale (x2 (ix2 ⟨(i 0).val, (i 0).isLt⟩
      ⟨2 * (i 1).val + 1, by have : (i 1).val < 9216 := (i 1).isLt; omega⟩)) := by
  have hs : val_main_v50 (F := Ideal) x2 i = x2 (ix2 ⟨(i 0).val, (i 0).isLt⟩
      ⟨2 * (i 1).val + 1, by have : (i 1).val < 9216 := (i 1).isLt; omega⟩) := by
    unfold val_main_v50 Host.slice
    refine congrArg x2 (funext fun a => Fin.ext ?_)
    match a with
    | ⟨0, _⟩ => show 0 + 1 * (i 0).val = (i 0).val; omega
    | ⟨1, _⟩ => show 1 + 2 * (i 1).val = 2 * (i 1).val + 1; omega
  rw [← hs]; rfl

theorem gateHi_weight (x1 : (⟨S7168x9216, .i8⟩ : BufTy).Contents (Elt Ideal)) (x2 : (⟨S224x18432, .i8⟩ : BufTy).Contents (Elt Ideal))
    (i : S7168x9216.Idx) :
    val_main_v94 (F := Ideal) x1 x2 i = refEntry true (x1 i)
      (x2 (ix2 ⟨(i 0).val / 32, by have : (i 0).val < 7168 := (i 0).isLt; omega⟩
        ⟨2 * (i 1).val + 1, by have : (i 1).val < 9216 := (i 1).isLt; omega⟩)) := by
  have h0 : (i 0).val < 7168 := (i 0).isLt
  have h1 : (i 1).val < 9216 := (i 1).isLt
  rw [val_main_v94_apply, val_main_v93_apply, val_main_v92_apply, val_main_v83_apply, val_main_v82_apply, gateHi_code, val_main_v91_apply, val_main_v90_apply, gateHi_scale]
  unfold refEntry
  refine congrArg₂ (fun a b : EReal => a * b) (congrArg (fun j => refCode (refNib true (x1 j))) (funext fun a => Fin.ext ?_))
    (congrArg (fun j => refScale (x2 j)) (funext fun a => Fin.ext ?_))
  · match a with
    | ⟨0, _⟩ =>
      show ((((i 0).val * 9216 + (i 1).val) / 294912 * 32 + ((i 0).val * 9216 + (i 1).val) / 9216 % 32) * 9216
        + ((i 0).val * 9216 + (i 1).val) % 9216) / 9216 = (i 0).val
      omega
    | ⟨1, _⟩ =>
      show ((((i 0).val * 9216 + (i 1).val) / 294912 * 32 + ((i 0).val * 9216 + (i 1).val) / 9216 % 32) * 9216
        + ((i 0).val * 9216 + (i 1).val) % 9216) % 9216 = (i 1).val
      omega
  · match a with
    | ⟨0, _⟩ => show ((i 0).val * 9216 + (i 1).val) / 294912 = (i 0).val / 32; omega
    | ⟨1, _⟩ => show 2 * (((i 0).val * 9216 + (i 1).val) % 9216) + 1 = 2 * (i 1).val + 1; omega

theorem upLo_code (x3 : (⟨S7168x9216, .i8⟩ : BufTy).Contents (Elt Ideal)) (i : S7168x9216.Idx) :
    val_main_v135 (F := Ideal) x3 i = refCode (refNib false (x3 i)) := rfl

theorem upLo_scale (x4 : (⟨S224x18432, .i8⟩ : BufTy).Contents (Elt Ideal)) (i : S224x9216.Idx) :
    val_main_v143 (F := Ideal) x4 i = refScale (x4 (ix2 ⟨(i 0).val, (i 0).isLt⟩
      ⟨2 * (i 1).val + 0, by have : (i 1).val < 9216 := (i 1).isLt; omega⟩)) := by
  have hs : val_main_v104 (F := Ideal) x4 i = x4 (ix2 ⟨(i 0).val, (i 0).isLt⟩
      ⟨2 * (i 1).val + 0, by have : (i 1).val < 9216 := (i 1).isLt; omega⟩) := by
    unfold val_main_v104 Host.slice
    refine congrArg x4 (funext fun a => Fin.ext ?_)
    match a with
    | ⟨0, _⟩ => show 0 + 1 * (i 0).val = (i 0).val; omega
    | ⟨1, _⟩ => show 0 + 2 * (i 1).val = 2 * (i 1).val + 0; omega
  rw [← hs]; rfl

theorem upLo_weight (x3 : (⟨S7168x9216, .i8⟩ : BufTy).Contents (Elt Ideal)) (x4 : (⟨S224x18432, .i8⟩ : BufTy).Contents (Elt Ideal))
    (i : S7168x9216.Idx) :
    val_main_v148 (F := Ideal) x3 x4 i = refEntry false (x3 i)
      (x4 (ix2 ⟨(i 0).val / 32, by have : (i 0).val < 7168 := (i 0).isLt; omega⟩
        ⟨2 * (i 1).val + 0, by have : (i 1).val < 9216 := (i 1).isLt; omega⟩)) := by
  have h0 : (i 0).val < 7168 := (i 0).isLt
  have h1 : (i 1).val < 9216 := (i 1).isLt
  rw [val_main_v148_apply, val_main_v147_apply, val_main_v146_apply, val_main_v137_apply, val_main_v136_apply, upLo_code, val_main_v145_apply, val_main_v144_apply, upLo_scale]
  unfold refEntry
  refine congrArg₂ (fun a b : EReal => a * b) (congrArg (fun j => refCode (refNib false (x3 j))) (funext fun a => Fin.ext ?_))
    (congrArg (fun j => refScale (x4 j)) (funext fun a => Fin.ext ?_))
  · match a with
    | ⟨0, _⟩ =>
      show ((((i 0).val * 9216 + (i 1).val) / 294912 * 32 + ((i 0).val * 9216 + (i 1).val) / 9216 % 32) * 9216
        + ((i 0).val * 9216 + (i 1).val) % 9216) / 9216 = (i 0).val
      omega
    | ⟨1, _⟩ =>
      show ((((i 0).val * 9216 + (i 1).val) / 294912 * 32 + ((i 0).val * 9216 + (i 1).val) / 9216 % 32) * 9216
        + ((i 0).val * 9216 + (i 1).val) % 9216) % 9216 = (i 1).val
      omega
  · match a with
    | ⟨0, _⟩ => show ((i 0).val * 9216 + (i 1).val) / 294912 = (i 0).val / 32; omega
    | ⟨1, _⟩ => show 2 * (((i 0).val * 9216 + (i 1).val) % 9216) + 0 = 2 * (i 1).val + 0; omega

theorem upHi_code (x3 : (⟨S7168x9216, .i8⟩ : BufTy).Contents (Elt Ideal)) (i : S7168x9216.Idx) :
    val_main_v182 (F := Ideal) x3 i = refCode (refNib true (x3 i)) := rfl

theorem upHi_scale (x4 : (⟨S224x18432, .i8⟩ : BufTy).Contents (Elt Ideal)) (i : S224x9216.Idx) :
    val_main_v190 (F := Ideal) x4 i = refScale (x4 (ix2 ⟨(i 0).val, (i 0).isLt⟩
      ⟨2 * (i 1).val + 1, by have : (i 1).val < 9216 := (i 1).isLt; omega⟩)) := by
  have hs : val_main_v151 (F := Ideal) x4 i = x4 (ix2 ⟨(i 0).val, (i 0).isLt⟩
      ⟨2 * (i 1).val + 1, by have : (i 1).val < 9216 := (i 1).isLt; omega⟩) := by
    unfold val_main_v151 Host.slice
    refine congrArg x4 (funext fun a => Fin.ext ?_)
    match a with
    | ⟨0, _⟩ => show 0 + 1 * (i 0).val = (i 0).val; omega
    | ⟨1, _⟩ => show 1 + 2 * (i 1).val = 2 * (i 1).val + 1; omega
  rw [← hs]; rfl

theorem upHi_weight (x3 : (⟨S7168x9216, .i8⟩ : BufTy).Contents (Elt Ideal)) (x4 : (⟨S224x18432, .i8⟩ : BufTy).Contents (Elt Ideal))
    (i : S7168x9216.Idx) :
    val_main_v195 (F := Ideal) x3 x4 i = refEntry true (x3 i)
      (x4 (ix2 ⟨(i 0).val / 32, by have : (i 0).val < 7168 := (i 0).isLt; omega⟩
        ⟨2 * (i 1).val + 1, by have : (i 1).val < 9216 := (i 1).isLt; omega⟩)) := by
  have h0 : (i 0).val < 7168 := (i 0).isLt
  have h1 : (i 1).val < 9216 := (i 1).isLt
  rw [val_main_v195_apply, val_main_v194_apply, val_main_v193_apply, val_main_v184_apply, val_main_v183_apply, upHi_code, val_main_v192_apply, val_main_v191_apply, upHi_scale]
  unfold refEntry
  refine congrArg₂ (fun a b : EReal => a * b) (congrArg (fun j => refCode (refNib true (x3 j))) (funext fun a => Fin.ext ?_))
    (congrArg (fun j => refScale (x4 j)) (funext fun a => Fin.ext ?_))
  · match a with
    | ⟨0, _⟩ =>
      show ((((i 0).val * 9216 + (i 1).val) / 294912 * 32 + ((i 0).val * 9216 + (i 1).val) / 9216 % 32) * 9216
        + ((i 0).val * 9216 + (i 1).val) % 9216) / 9216 = (i 0).val
      omega
    | ⟨1, _⟩ =>
      show ((((i 0).val * 9216 + (i 1).val) / 294912 * 32 + ((i 0).val * 9216 + (i 1).val) / 9216 % 32) * 9216
        + ((i 0).val * 9216 + (i 1).val) % 9216) % 9216 = (i 1).val
      omega
  · match a with
    | ⟨0, _⟩ => show ((i 0).val * 9216 + (i 1).val) / 294912 = (i 0).val / 32; omega
    | ⟨1, _⟩ => show 2 * (((i 0).val * 9216 + (i 1).val) % 9216) + 1 = 2 * (i 1).val + 1; omega

/-- The gate product of the reference, entry by entry. -/
theorem gate_product (x0 : (⟨S6144x7168, .bf16⟩ : BufTy).Contents (Elt Ideal)) (x1 : (⟨S7168x9216, .i8⟩ : BufTy).Contents (Elt Ideal)) (x2 : (⟨S224x18432, .i8⟩ : BufTy).Contents (Elt Ideal))
    (i : S6144x18432.Idx) :
    val_main_v100 (F := Ideal) x0 x1 x2 i = ∑ k : Fin 7168, x0 (ix2 ⟨(i 0).val, (i 0).isLt⟩ k)
      * refEntry (decide ((i 1).val % 2 = 1)) (x1 (ix2 k ⟨(i 1).val / 2, by have : (i 1).val < 18432 := (i 1).isLt; omega⟩))
          (x2 (ix2 ⟨k.val / 32, by have := k.isLt; omega⟩ ⟨(i 1).val, (i 1).isLt⟩)) := by
  have h0 : (i 0).val < 6144 := (i 0).isLt
  have h1 : (i 1).val < 18432 := (i 1).isLt
  rw [val_main_v100_apply]
  unfold val_main_v99
  by_cases hp : (i 1).val % 2 = 1
  · rw [concatenate_pair_apply_right (t := S6144x9216x2) (s₁ := S6144x9216x1) (s₂ := S6144x9216x1) 2 _ _ _ (idx_main_v100 i) rfl rfl
      (ix3 (⟨(i 0).val, h0⟩ : Fin 6144) (⟨(i 1).val / 2, by omega⟩ : Fin 9216) (0 : Fin 1))
      (by
        intro a
        match a with
        | ⟨0, _⟩ => intro _; show (i 0).val = ((i 0).val * 18432 + (i 1).val) / 18432; omega
        | ⟨1, _⟩ => intro _; show (i 1).val / 2 = ((i 0).val * 18432 + (i 1).val) / 2 % 9216; omega
        | ⟨2, _⟩ => intro h; exact absurd rfl h)
      (by show 0 + 1 = ((i 0).val * 18432 + (i 1).val) % 2; omega)]
    rw [val_main_v98_apply, val_main_v96_apply]
    refine Finset.sum_congr rfl fun k _ => ?_
    rw [gateHi_weight, decide_eq_true hp]
    refine congrArg₂ (fun a b : EReal => a * b) (congrArg x0 (funext fun a => ?_))
      (congrArg₂ (fun a b => refEntry true (x1 a) (x2 b)) (funext fun a => ?_) (funext fun a => Fin.ext ?_))
    · match a with
      | ⟨0, _⟩ => rfl
      | ⟨1, _⟩ => rfl
    · match a with
      | ⟨0, _⟩ => rfl
      | ⟨1, _⟩ => rfl
    · match a with
      | ⟨0, _⟩ => rfl
      | ⟨1, _⟩ => show 2 * ((i 1).val / 2) + 1 = (i 1).val; omega
  · rw [concatenate_pair_apply_left (t := S6144x9216x2) (s₁ := S6144x9216x1) (s₂ := S6144x9216x1) 2 _ _ _ (idx_main_v100 i) rfl
      (ix3 (⟨(i 0).val, h0⟩ : Fin 6144) (⟨(i 1).val / 2, by omega⟩ : Fin 9216) (0 : Fin 1))
      (by
        intro a
        match a with
        | ⟨0, _⟩ => show (i 0).val = ((i 0).val * 18432 + (i 1).val) / 18432; omega
        | ⟨1, _⟩ => show (i 1).val / 2 = ((i 0).val * 18432 + (i 1).val) / 2 % 9216; omega
        | ⟨2, _⟩ => show 0 = ((i 0).val * 18432 + (i 1).val) % 2; omega)]
    rw [val_main_v97_apply, val_main_v95_apply]
    refine Finset.sum_congr rfl fun k _ => ?_
    rw [gateLo_weight, decide_eq_false hp]
    refine congrArg₂ (fun a b : EReal => a * b) (congrArg x0 (funext fun a => ?_))
      (congrArg₂ (fun a b => refEntry false (x1 a) (x2 b)) (funext fun a => ?_) (funext fun a => Fin.ext ?_))
    · match a with
      | ⟨0, _⟩ => rfl
      | ⟨1, _⟩ => rfl
    · match a with
      | ⟨0, _⟩ => rfl
      | ⟨1, _⟩ => rfl
    · match a with
      | ⟨0, _⟩ => rfl
      | ⟨1, _⟩ => show 2 * ((i 1).val / 2) + 0 = (i 1).val; omega

/-- The up product of the reference, entry by entry. -/
theorem up_product (x0 : (⟨S6144x7168, .bf16⟩ : BufTy).Contents (Elt Ideal)) (x3 : (⟨S7168x9216, .i8⟩ : BufTy).Contents (Elt Ideal)) (x4 : (⟨S224x18432, .i8⟩ : BufTy).Contents (Elt Ideal))
    (i : S6144x18432.Idx) :
    val_main_v201 (F := Ideal) x0 x3 x4 i = ∑ k : Fin 7168, x0 (ix2 ⟨(i 0).val, (i 0).isLt⟩ k)
      * refEntry (decide ((i 1).val % 2 = 1)) (x3 (ix2 k ⟨(i 1).val / 2, by have : (i 1).val < 18432 := (i 1).isLt; omega⟩))
          (x4 (ix2 ⟨k.val / 32, by have := k.isLt; omega⟩ ⟨(i 1).val, (i 1).isLt⟩)) := by
  have h0 : (i 0).val < 6144 := (i 0).isLt
  have h1 : (i 1).val < 18432 := (i 1).isLt
  rw [val_main_v201_apply]
  unfold val_main_v200
  by_cases hp : (i 1).val % 2 = 1
  · rw [concatenate_pair_apply_right (t := S6144x9216x2) (s₁ := S6144x9216x1) (s₂ := S6144x9216x1) 2 _ _ _ (idx_main_v201 i) rfl rfl
      (ix3 (⟨(i 0).val, h0⟩ : Fin 6144) (⟨(i 1).val / 2, by omega⟩ : Fin 9216) (0 : Fin 1))
      (by
        intro a
        match a with
        | ⟨0, _⟩ => intro _; show (i 0).val = ((i 0).val * 18432 + (i 1).val) / 18432; omega
        | ⟨1, _⟩ => intro _; show (i 1).val / 2 = ((i 0).val * 18432 + (i 1).val) / 2 % 9216; omega
        | ⟨2, _⟩ => intro h; exact absurd rfl h)
      (by show 0 + 1 = ((i 0).val * 18432 + (i 1).val) % 2; omega)]
    rw [val_main_v199_apply, val_main_v197_apply]
    refine Finset.sum_congr rfl fun k _ => ?_
    rw [upHi_weight, decide_eq_true hp]
    refine congrArg₂ (fun a b : EReal => a * b) (congrArg x0 (funext fun a => ?_))
      (congrArg₂ (fun a b => refEntry true (x3 a) (x4 b)) (funext fun a => ?_) (funext fun a => Fin.ext ?_))
    · match a with
      | ⟨0, _⟩ => rfl
      | ⟨1, _⟩ => rfl
    · match a with
      | ⟨0, _⟩ => rfl
      | ⟨1, _⟩ => rfl
    · match a with
      | ⟨0, _⟩ => rfl
      | ⟨1, _⟩ => show 2 * ((i 1).val / 2) + 1 = (i 1).val; omega
  · rw [concatenate_pair_apply_left (t := S6144x9216x2) (s₁ := S6144x9216x1) (s₂ := S6144x9216x1) 2 _ _ _ (idx_main_v201 i) rfl
      (ix3 (⟨(i 0).val, h0⟩ : Fin 6144) (⟨(i 1).val / 2, by omega⟩ : Fin 9216) (0 : Fin 1))
      (by
        intro a
        match a with
        | ⟨0, _⟩ => show (i 0).val = ((i 0).val * 18432 + (i 1).val) / 18432; omega
        | ⟨1, _⟩ => show (i 1).val / 2 = ((i 0).val * 18432 + (i 1).val) / 2 % 9216; omega
        | ⟨2, _⟩ => show 0 = ((i 0).val * 18432 + (i 1).val) % 2; omega)]
    rw [val_main_v198_apply, val_main_v196_apply]
    refine Finset.sum_congr rfl fun k _ => ?_
    rw [upLo_weight, decide_eq_false hp]
    refine congrArg₂ (fun a b : EReal => a * b) (congrArg x0 (funext fun a => ?_))
      (congrArg₂ (fun a b => refEntry false (x3 a) (x4 b)) (funext fun a => ?_) (funext fun a => Fin.ext ?_))
    · match a with
      | ⟨0, _⟩ => rfl
      | ⟨1, _⟩ => rfl
    · match a with
      | ⟨0, _⟩ => rfl
      | ⟨1, _⟩ => rfl
    · match a with
      | ⟨0, _⟩ => rfl
      | ⟨1, _⟩ => show 2 * ((i 1).val / 2) + 0 = (i 1).val; omega

/-- One product of the activations with packed weights, entry by entry. -/
def proj (x0 : S6144x7168.Idx → EReal) (X : S7168x9216.Idx → BitVec 8) (S : S224x18432.Idx → BitVec 8) (i : S6144x18432.Idx) : EReal :=
  ∑ k : Fin 7168, x0 (ix2 ⟨(i 0).val, (i 0).isLt⟩ k)
    * refEntry (decide ((i 1).val % 2 = 1)) (X (ix2 k ⟨(i 1).val / 2, by have : (i 1).val < 18432 := (i 1).isLt; omega⟩))
        (S (ix2 ⟨k.val / 32, by have := k.isLt; omega⟩ ⟨(i 1).val, (i 1).isLt⟩))

/-- The reference's result: the gated product. -/
theorem result_apply (x0 : (⟨S6144x7168, .bf16⟩ : BufTy).Contents (Elt Ideal)) (x1 : (⟨S7168x9216, .i8⟩ : BufTy).Contents (Elt Ideal)) (x2 : (⟨S224x18432, .i8⟩ : BufTy).Contents (Elt Ideal)) (x3 : (⟨S7168x9216, .i8⟩ : BufTy).Contents (Elt Ideal)) (x4 : (⟨S224x18432, .i8⟩ : BufTy).Contents (Elt Ideal)) (i : S6144x18432.Idx) :
    val_main_v204 (F := Ideal) x0 x1 x2 x3 x4 i
      = proj x0 x1 x2 i * Ideal.logistic (proj x0 x1 x2 i) * proj x0 x3 x4 i := by
  have one : Ideal.ofBits .f32 0x3F800000#32 = 1 := by simp [Ideal.ofBits, Ideal.ieee, -EReal.coe_mul]; norm_num
  have hg : proj x0 x1 x2 i = val_main_v100 (F := Ideal) x0 x1 x2 i := (gate_product x0 x1 x2 i).symm
  have hu : proj x0 x3 x4 i = val_main_v201 (F := Ideal) x0 x3 x4 i := (up_product x0 x3 x4 i).symm
  rw [hg, hu]
  unfold Ideal.logistic
  rw [← one]
  rfl

end Cert.ReferenceIdeal.Hand

end
-- ==== Proof.Weights.lean ====
/- A weight decoded by the kernel is the reference's weight: the four-bit code placed in an fp8e4m3 and scaled by 64 has the
   code's value, and a scale byte (neither 0 nor 255) in the exponent field of a bf16 is two to the power of the byte less 127. -/
module

public import proofs.«01_k».proof.Proof.Decode
public import proofs.«01_k».proof.Proof.Reference

@[expose] public section

set_option maxRecDepth 16384

noncomputable section

namespace Cert.Proof.Weights

open Idealize.ShloMosaic Cert.KernelIdeal.Hand Cert.ReferenceIdeal.Hand

/-- The reference's bits of a byte's code are the kernel's. -/
theorem refNib_eq (odd : Bool) (c : BitVec 8) : refNib odd c = (nib odd c).setWidth 32 := by
  revert c; cases odd
  · decide +kernel
  · decide +kernel

theorem bits_64 : Ideal.ofBits .bf16 0x4280#16 = ((64 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num

theorem mag_0 : Ideal.ofBits .f32 0x00000000#32 = ((0 : ℝ) : EReal) := by simp [Ideal.ofBits, Ideal.ieee, -EReal.coe_mul]
theorem mag_1 : Ideal.ofBits .f32 0x3F000000#32 = ((1 / 2 : ℝ) : EReal) := by simp [Ideal.ofBits, Ideal.ieee, -EReal.coe_mul]; norm_num
theorem mag_2 : Ideal.ofBits .f32 0x3F800000#32 = ((1 : ℝ) : EReal) := by simp [Ideal.ofBits, Ideal.ieee, -EReal.coe_mul]; norm_num
theorem mag_3 : Ideal.ofBits .f32 0x3FC00000#32 = ((3 / 2 : ℝ) : EReal) := by simp [Ideal.ofBits, Ideal.ieee, -EReal.coe_mul]; norm_num
theorem mag_5 : Ideal.ofBits .f32 0x40400000#32 = ((3 : ℝ) : EReal) := by simp [Ideal.ofBits, Ideal.ieee, -EReal.coe_mul]; norm_num
theorem mag_6 : Ideal.ofBits .f32 0x40800000#32 = ((4 : ℝ) : EReal) := by simp [Ideal.ofBits, Ideal.ieee, -EReal.coe_mul]; norm_num
theorem mag_7 : Ideal.ofBits .f32 0x40C00000#32 = ((6 : ℝ) : EReal) := by simp [Ideal.ofBits, Ideal.ieee, -EReal.coe_mul]; norm_num

/-- The sixteen codes: placed in an fp8e4m3 and scaled by 64, each has the value the reference gives it. -/
theorem code_eq (n : BitVec 4) : Ideal.ofBits .fp8e4m3 (place n) * Ideal.ofBits .bf16 0x4280#16 = refCode (n.setWidth 32) := by
  unfold refCode refMag
  rw [bits_64, mag_0, mag_1, mag_2, mag_3, bits_two, mag_5, mag_6, mag_7]
  obtain ⟨n⟩ := n
  fin_cases n <;>
    simp [bit, Scalar.select, IntOp.cmpi, IntOp.andi, IntOp.shrsi, place, Ideal.ofBits, Ideal.e4m3fn, -EReal.coe_mul] <;>
    norm_num [-EReal.coe_mul] <;> rw [← EReal.coe_mul] <;> norm_num [-EReal.coe_mul]

/-- A scale byte in a bf16's exponent field is its power of two. -/
theorem scale_eq (s : BitVec 8) (h1 : 1 ≤ s.toNat) (h2 : s.toNat ≤ 254) : Ideal.ofBits .bf16 (s.setWidth 16 <<< 7) = refScale s := by
  have hneg : ((s.setWidth 16 <<< 7 : BitVec 16).extractLsb' 15 1 == 1#1) = false := by revert s; decide +kernel
  have hex : ((s.setWidth 16 <<< 7 : BitVec 16).extractLsb' 7 8).toNat = s.toNat := by clear h1 h2 hneg; revert s; decide +kernel
  have hfr : ((s.setWidth 16 <<< 7 : BitVec 16).extractLsb' 0 7).toNat = 0 := by clear h1 h2 hneg hex; revert s; decide +kernel
  have hint : (IntOp.subi (s.setWidth 32) 127#32).toInt = (s.toNat : Int) - 127 := by clear h1 h2 hneg hex hfr; revert s; decide +kernel
  show Ideal.ieee 8 7 (s.setWidth 16 <<< 7 : BitVec 16) = _
  unfold refScale Ideal.ieee
  simp only [Nat.reduceAdd, hneg, hex, hfr, hint]
  rw [if_neg (by omega), if_neg (by omega), bits_two]
  refine congrArg (fun r : ℝ => (r : EReal)) ?_
  rw [show ((((s.toNat : Int) - 127 : Int) : ℝ)) = (((s.toNat : Int) - 127 : Int) : ℝ) from rfl]
  show _ = (2 : ℝ) ^ ((((s.toNat : Int) - 127 : Int)) : ℝ)
  rw [Real.rpow_intCast]
  rw [show ((s.toNat : Int) - (2 ^ (8 - 1) - 1) - ((7 : Nat) : Int)) = ((s.toNat : Int) - 127) + (-7) by norm_num; ring, zpow_add₀ (by norm_num)]
  norm_num
  ring

/-- The two decodings of a weight agree. -/
theorem entry_eq (odd : Bool) (c s : BitVec 8) (h1 : 1 ≤ s.toNat) (h2 : s.toNat ≤ 254) : wEntry odd c s = refEntry odd c s := by
  unfold wEntry refEntry
  rw [code_eq, scale_eq s h1 h2, refNib_eq]

end Cert.Proof.Weights

end
-- ==== Proof.Equal.lean ====
/- The kernel's result and the reference's are the same function of the five arguments, wherever every scale byte is one a
   scale can be encoded as: not 0, not 255. -/
module

public import proofs.«01_k».proof.Proof.Output
public import proofs.«01_k».proof.Proof.Weights
public import proofs.«01_k».proof.Pre_scales_in_range

@[expose] public section

set_option maxRecDepth 16384

noncomputable section

namespace Cert.Proof.Equal

open Idealize.ShloMosaic Idealize.ShloMosaic.ValueIdx Cert.Proof.Weights
open scoped BigOperators

/-! ## What the precondition says of one scale byte -/

/-- A byte compared as the precondition compares it: at least 1 and at most 254. -/
theorem byte_range (a b : BitVec 8)
    (h : IntOp.andi (IntOp.andi (IntOp.andi (IntOp.cmpi .uge a 1#8) (IntOp.cmpi .ule a 254#8)) (IntOp.cmpi .uge b 1#8)) (IntOp.cmpi .ule b 254#8) = 1#1) :
    (1 ≤ a.toNat ∧ a.toNat ≤ 254) ∧ (1 ≤ b.toNat ∧ b.toNat ≤ 254) := by
  have split : ∀ x y : BitVec 1, IntOp.andi x y = 1#1 → x = 1#1 ∧ y = 1#1 := by decide
  have lo : ∀ v : BitVec 8, IntOp.cmpi .uge v 1#8 = 1#1 → 1 ≤ v.toNat := by decide +kernel
  have hi : ∀ v : BitVec 8, IntOp.cmpi .ule v 254#8 = 1#1 → v.toNat ≤ 254 := by decide +kernel
  obtain ⟨h', h4⟩ := split _ _ h
  obtain ⟨h'', h3⟩ := split _ _ h'
  obtain ⟨h1, h2⟩ := split _ _ h''
  exact ⟨⟨lo _ h1, hi _ h2⟩, ⟨lo _ h3, hi _ h4⟩⟩

/-- Under the precondition both scale arrays are in range everywhere. -/
theorem scales_range [Cert.Pre_scales_in_range.Facts] (x0 x1 x2 x3 x4)
    (h : Cert.Pre_scales_in_range.fn (F := Ideal) x0 x1 x2 x3 x4 = fun _ => 1#1) (j : Cert.Pre_scales_in_range.S224x18432.Idx) :
    (1 ≤ (x2 j).toNat ∧ (x2 j).toNat ≤ 254) ∧ (1 ≤ (x4 j).toNat ∧ (x4 j).toNat ≤ 254) :=
  byte_range (x2 j) (x4 j) (congrFun h j)

/-! ## The two results -/

/-- One product, entry by entry: the two sides' weights are equal, so the sums are. -/
theorem proj_eq (x0 : Cert.KernelIdeal.S6144x7168.Idx → EReal) (X : Cert.KernelIdeal.S7168x9216.Idx → BitVec 8)
    (S : Cert.KernelIdeal.S224x18432.Idx → BitVec 8) (hS : ∀ j, 1 ≤ (S j).toNat ∧ (S j).toNat ≤ 254) (i : Cert.KernelIdeal.S6144x18432.Idx) :
    Cert.KernelIdeal.Hand.projK x0 X S i = Cert.ReferenceIdeal.Hand.proj x0 X S i :=
  Finset.sum_congr rfl fun k _ => congrArg (x0 (ix2 ⟨(i 0).val, (i 0).isLt⟩ k) * ·) (entry_eq _ _ _ (hS _).1 (hS _).2)

/-- The kernel's result is the reference's. -/
theorem result_eq (x0 : Cert.KernelIdeal.S6144x7168.Idx → EReal) (x1 : Cert.KernelIdeal.S7168x9216.Idx → BitVec 8)
    (x2 : Cert.KernelIdeal.S224x18432.Idx → BitVec 8) (x3 : Cert.KernelIdeal.S7168x9216.Idx → BitVec 8)
    (x4 : Cert.KernelIdeal.S224x18432.Idx → BitVec 8)
    (h2 : ∀ j, 1 ≤ (x2 j).toNat ∧ (x2 j).toNat ≤ 254) (h4 : ∀ j, 1 ≤ (x4 j).toNat ∧ (x4 j).toNat ≤ 254) :
    Cert.ReferenceIdeal.Read.val_main_v204 (F := Ideal) x0 x1 x2 x3 x4 = Cert.KernelIdeal.Hand.result x0 x1 x2 x3 x4 := by
  funext i
  refine (Cert.ReferenceIdeal.Hand.result_apply x0 x1 x2 x3 x4 i).trans ?_
  unfold Cert.KernelIdeal.Hand.result
  rw [proj_eq x0 x1 x2 h2 i, proj_eq x0 x3 x4 h4 i]

end Cert.Proof.Equal

end
-- ==== Proof.lean ====
module

public import proofs.«01_k».proof.Defs
public import proofs.«01_k».proof.Proof.KernelFrame
public import proofs.«01_k».proof.Proof.Gen.Quantise.Frame
public import proofs.«01_k».proof.Proof.Gen.ReferenceIdeal.Run
public import proofs.«01_k».proof.Proof.Gen.Pre_scales_in_range
public import proofs.«01_k».proof.Proof.Equal
public import Idealize.ShloMosaic.Adequacy
public import Idealize.ShloMosaic.Init

@[expose] public section

set_option maxRecDepth 16384

noncomputable section

namespace Cert.Proof

open Idealize.ShloMosaic Idealize.SL.Sem

/-- The reference's frame: its run read at the arguments; it declares no semaphore. -/
theorem frame_reference (m) (ρ) : θ_run (Cert.ReferenceIdeal.defs (F := Ideal)) (onTc (τ := Cert.ReferenceIdeal.τ) (Cert.ReferenceIdeal.main (F := Ideal)))
    ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- The value claim. The common value is the kernel's result, a function of the arguments the two programs share. -/
theorem algebraic : algebraic_KernelIdeal_ReferenceIdeal_pre_scales_in_range (hKernelIdeal := Cert.KernelIdeal.Gen.facts)
    (hReferenceIdeal := Cert.ReferenceIdeal.Gen.facts) (hPre_scales_in_range := Cert.Pre_scales_in_range.Gen.facts) := by
  intro m ρ m' ρ' hpre hagree
  refine ⟨fun c => Cert.KernelIdeal.Hand.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Hand.run m ρ,
    (θ_run Cert.ReferenceIdeal.defs _ _).mono (fun r h c => ⟨(h c).1.trans ?_, (h c).2⟩) (Cert.ReferenceIdeal.Value.run (F := Ideal) m' ρ')⟩
  refine (Cert.ReferenceIdeal.Read.val_main_v204_eq (F := Ideal) (StableHlo.launchContents m' c)).trans ?_
  obtain ⟨e0, e1, e2, e3, e4⟩ := hagree c
  refine (congr (congr (congr (congr (congrArg (Cert.ReferenceIdeal.Read.val_main_v204 (F := Ideal)) e0) e1) e2) e3) e4).trans ?_
  have hs := Equal.scales_range _ _ _ _ _ (hpre c)
  exact Equal.result_eq _ _ _ _ _ (fun j => (hs j).1) (fun j => (hs j).2)

theorem claim : Cert.Claim :=
  ⟨Cert.Quantise.Gen.facts, Cert.Kernel.Gen.facts, Cert.KernelIdeal.Gen.facts, Cert.ReferenceIdeal.Gen.facts, Cert.Pre_scales_in_range.Gen.facts,
    fun m ρ _ => Cert.Quantise.Gen.frame m ρ,
    fun m ρ _ => Cert.Kernel.Hand.frame m ρ,
    fun m ρ _ => Cert.KernelIdeal.Hand.frame m ρ,
    fun m ρ _ => Cert.KernelIdeal.Hand.frame m ρ,
    fun m ρ _ => frame_reference m ρ,
    fun m ρ _ => frame_reference m ρ,
    trivial,
    algebraic⟩

end Cert.Proof

end
